-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v25_0)) (v1 : (c : Dev Cert.Kernel2Ideal.nD) → Buf (Elt Ideal) ((c.tc : Thread Cert.Kernel2Ideal.nD Cert.Kernel2Ideal.τ).loc Cert.Kernel2Ideal.main_v25_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25_0) = v0 c
          ∧ r.2.mem ((c.tc : Thread Cert.Kernel2Ideal.nD Cert.Kernel2Ideal.τ).loc Cert.Kernel2Ideal.main_v25_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_v54) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def Claim : Prop :=
  ∃ (hKernel : Cert.Kernel.Facts) (hKernelIdeal : Cert.KernelIdeal.Facts) (hKernel2 : Cert.Kernel2.Facts) (hKernel2Ideal : Cert.Kernel2Ideal.Facts) (hReferenceIdeal : Cert.ReferenceIdeal.Facts) (hReference2Ideal : Cert.Reference2Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_ReferenceIdeal (hReferenceIdeal := hReferenceIdeal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S4x4096x2048 : Shape := ⟨3, ![4, 4096, 2048]⟩
abbrev S1x2048x5120 : Shape := ⟨3, ![1, 2048, 5120]⟩
abbrev S16384x2048 : Shape := ⟨2, ![16384, 2048]⟩
abbrev S2048x5120 : Shape := ⟨2, ![2048, 5120]⟩
abbrev S24x4x16x256x128 : Shape := ⟨5, ![24, 4, 16, 256, 128]⟩
abbrev S16x16384x128 : Shape := ⟨3, ![16, 16384, 128]⟩
abbrev S_ : Shape := ⟨0, ![]⟩
abbrev S2x256x2048 : Shape := ⟨3, ![2, 256, 2048]⟩
abbrev S2 : Shape := ⟨1, ![2]⟩
abbrev S2x24x1x16x16x128 : Shape := ⟨6, ![2, 24, 1, 16, 16, 128]⟩
abbrev S2x16x256x128 : Shape := ⟨4, ![2, 16, 256, 128]⟩
abbrev S1 : Shape := ⟨1, ![1]⟩
abbrev S1x256x2048 : Shape := ⟨3, ![1, 256, 2048]⟩
abbrev S256x2048 : Shape := ⟨2, ![256, 2048]⟩
abbrev S256x256 : Shape := ⟨2, ![256, 256]⟩
abbrev S2048x1024 : Shape := ⟨2, ![2048, 1024]⟩
abbrev S256x1024 : Shape := ⟨2, ![256, 1024]⟩
abbrev S256x128 : Shape := ⟨2, ![256, 128]⟩
abbrev S16x128 : Shape := ⟨2, ![16, 128]⟩
abbrev S1x24x1x16x16x128 : Shape := ⟨6, ![1, 24, 1, 16, 16, 128]⟩
abbrev S24x1x16x16x128 : Shape := ⟨5, ![24, 1, 16, 16, 128]⟩
abbrev S1x1x1x16x128 : Shape := ⟨5, ![1, 1, 1, 16, 128]⟩
abbrev S1x16x256x128 : Shape := ⟨4, ![1, 16, 256, 128]⟩
abbrev S16x256x128 : Shape := ⟨3, ![16, 256, 128]⟩
abbrev S1x256x128 : Shape := ⟨3, ![1, 256, 128]⟩

abbrev nBuf : Space → Nat
  | .hbm => 7
  | .vmem => 4
  | .smem => 0
  | _ => 0

abbrev bufTy : (tb : Table) → Fin (tcTables nBuf tb) → BufTy
  | .hbm, ⟨0, _⟩ => ⟨S4x4096x2048, .f32⟩
  | .hbm, ⟨1, _⟩ => ⟨S1x2048x5120, .f32⟩
  | .hbm, ⟨2, _⟩ => ⟨S16384x2048, .f32⟩
  | .hbm, ⟨3, _⟩ => ⟨S2048x5120, .f32⟩
  | .hbm, ⟨4, _⟩ => ⟨S2048x5120, .bf16⟩
  | .hbm, ⟨5, _⟩ => ⟨S24x4x16x256x128, .f32⟩
  | .hbm, ⟨6, _⟩ => ⟨S16x16384x128, .f32⟩
  | .local _ .vmem, ⟨0, _⟩ => ⟨S2048x5120, .bf16⟩
  | .local _ .vmem, ⟨1, _⟩ => ⟨S2x256x2048, .f32⟩
  | .local _ .vmem, ⟨2, _⟩ => ⟨S2x24x1x16x16x128, .f32⟩
  | .local _ .vmem, ⟨3, _⟩ => ⟨S2x16x256x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_scratch0 : Ref sig .tc := ⟨.vmem, 0, rfl⟩
abbrev cc0_scoped0 : Ref sig .tc := ⟨.vmem, 1, rfl⟩
abbrev cc0_scoped2 : Ref sig .tc := ⟨.vmem, 2, rfl⟩
abbrev cc0_scoped4 : Ref sig .tc := ⟨.vmem, 3, rfl⟩

abbrev nD : Nat := 1
abbrev τ : Topo := Topo.v7x

variable {F : FTy → Type} [FloatOps F]

abbrev grid0 : Pipeline.Grid := .none

def k0_off1 : Fin 1 → Nat :=
  let c0_i32_13_r0 : BitVec 32 := 0#32
  let c2_i32_r0 : BitVec 32 := 2#32
  let v16_r0 : BitVec 32 := Scalar.remui c0_i32_13_r0 c2_i32_r0
  ![v16_r0.toNat]
def k0_off2 : Fin 3 → Nat :=
  let c0_i32_13_r0 : BitVec 32 := 0#32
  let c2_i32_r0 : BitVec 32 := 2#32
  let v16_r0 : BitVec 32 := Scalar.remui c0_i32_13_r0 c2_i32_r0
  let c0_i32_14_r0 : BitVec 32 := 0#32
  let c0_i32_15_r0 : BitVec 32 := 0#32
  ![v16_r0.toNat, 0, 0]
@[reducible] def k0_t1_loop : Scf.Loop 32 :=
  let c0_i32_26_r0 : BitVec 32 := 0#32
  let c64_i32_27_r0 : BitVec 32 := 64#32
  let v23_r0 : BitVec 32 := Scalar.addi c0_i32_26_r0 c64_i32_27_r0
  let c1_i32_28_r0 : BitVec 32 := 1#32
  ⟨c0_i32_26_r0, v23_r0, c1_i32_28_r0⟩
def k0_off3 (arg7_r0 : BitVec 32) : Fin 1 → Nat :=
  let c2_i32_4118_r0 : BitVec 32 := 2#32
  let v2773_r0 : BitVec 32 := Scalar.remui arg7_r0 c2_i32_4118_r0
  ![v2773_r0.toNat]
def k0_cond1 (k0_t1 : Fin k0_t1_loop.trips) (arg13_r0 : BitVec 32) : BitVec 1 :=
  let c0_i32_81_r0 : BitVec 32 := 0#32
  let v89_r0 : BitVec 32 := Scalar.addi arg13_r0 c0_i32_81_r0
  let true_88_r0 : BitVec 1 := 1#1
  let c1_i32_87_r0 : BitVec 32 := 1#32
  let v95_r0 : BitVec 32 := Scalar.addi arg13_r0 c1_i32_87_r0
  let v96_r0 : BitVec 32 := Scalar.select true_88_r0 v95_r0 arg13_r0
  let c64_i32_89_r0 : BitVec 32 := 64#32
  let v97_r0 : BitVec 1 := Scalar.cmpi .eq v96_r0 c64_i32_89_r0
  let c0_i32_90_r0 : BitVec 32 := 0#32
  let v98_r0 : BitVec 32 := Scalar.select v97_r0 c0_i32_90_r0 v96_r0
  let c0_i32_91_r0 : BitVec 32 := 0#32
  let v99_r0 : BitVec 32 := Scalar.addi v98_r0 c0_i32_91_r0
  let v105_r0 : BitVec 1 := Scalar.cmpi .ne v89_r0 v99_r0
  let c0_i32_26_r0 : BitVec 32 := 0#32
  let c1_i32_28_r0 : BitVec 32 := 1#32
  let arg6_r0 : BitVec 32 := Scf.iv c0_i32_26_r0 c1_i32_28_r0 k0_t1
  let c63_i32_97_r0 : BitVec 32 := 63#32
  let v106_r0 : BitVec 1 := Scalar.cmpi .sge arg6_r0 c63_i32_97_r0
  let true_98_r0 : BitVec 1 := 1#1
  let v107_r0 : BitVec 1 := Scalar.xori v106_r0 true_98_r0
  let v108_r0 : BitVec 1 := Scalar.andi v105_r0 v107_r0
  let true_99_r0 : BitVec 1 := 1#1
  let v109_r0 : BitVec 1 := Scalar.andi v108_r0 true_99_r0
  let v110_r0 : BitVec 32 := Scalar.extui v109_r0
  let c0_i32_100_r0 : BitVec 32 := 0#32
  let v111_r0 : BitVec 1 := Scalar.cmpi .ne v110_r0 c0_i32_100_r0
  v111_r0

def k0_off4 (arg7_r0 : BitVec 32) : Fin 3 → Nat :=
  let c2_i32_4118_r0 : BitVec 32 := 2#32
  let v2773_r0 : BitVec 32 := Scalar.remui arg7_r0 c2_i32_4118_r0
  let c0_i32_4120_r0 : BitVec 32 := 0#32
  let c0_i32_4121_r0 : BitVec 32 := 0#32
  ![v2773_r0.toNat, 0, 0]
def k0_off5 (arg13_r0 : BitVec 32) : Fin 2 → Nat :=
  let c256_i32_4119_r0 : BitVec 32 := 256#32
  let true_88_r0 : BitVec 1 := 1#1
  let c1_i32_87_r0 : BitVec 32 := 1#32
  let v95_r0 : BitVec 32 := Scalar.addi arg13_r0 c1_i32_87_r0
  let v96_r0 : BitVec 32 := Scalar.select true_88_r0 v95_r0 arg13_r0
  let c64_i32_89_r0 : BitVec 32 := 64#32
  let v97_r0 : BitVec 1 := Scalar.cmpi .eq v96_r0 c64_i32_89_r0
  let c0_i32_90_r0 : BitVec 32 := 0#32
  let v98_r0 : BitVec 32 := Scalar.select v97_r0 c0_i32_90_r0 v96_r0
  let c0_i32_91_r0 : BitVec 32 := 0#32
  let v99_r0 : BitVec 32 := Scalar.addi v98_r0 c0_i32_91_r0
  let v2774_r0 : BitVec 32 := Scalar.muli c256_i32_4119_r0 v99_r0
  let c0_i32_4122_r0 : BitVec 32 := 0#32
  ![v2774_r0.toNat, 0]
def k0_off6 (arg8_r0 : BitVec 32) : Fin 1 → Nat :=
  let c2_i32_4119_r0 : BitVec 32 := 2#32
  let v2774_r0 : BitVec 32 := Scalar.remui arg8_r0 c2_i32_4119_r0
  ![v2774_r0.toNat]
def k0_cond2 (k0_t1 : Fin k0_t1_loop.trips) (arg13_r0 : BitVec 32) : BitVec 1 :=
  let c0_i32_81_r0 : BitVec 32 := 0#32
  let v89_r0 : BitVec 32 := Scalar.addi arg13_r0 c0_i32_81_r0
  let true_83_r0 : BitVec 1 := 1#1
  let c1_i32_82_r0 : BitVec 32 := 1#32
  let v90_r0 : BitVec 32 := Scalar.subi arg13_r0 c1_i32_82_r0
  let v91_r0 : BitVec 32 := Scalar.select true_83_r0 v90_r0 arg13_r0
  let c_m1_i32_84_r0 : BitVec 32 := 4294967295#32
  let v92_r0 : BitVec 1 := Scalar.cmpi .eq v91_r0 c_m1_i32_84_r0
  let c63_i32_85_r0 : BitVec 32 := 63#32
  let v93_r0 : BitVec 32 := Scalar.select v92_r0 c63_i32_85_r0 v91_r0
  let c0_i32_86_r0 : BitVec 32 := 0#32
  let v94_r0 : BitVec 32 := Scalar.addi v93_r0 c0_i32_86_r0
  let v179_r0 : BitVec 1 := Scalar.cmpi .ne v89_r0 v94_r0
  let c0_i32_26_r0 : BitVec 32 := 0#32
  let c1_i32_28_r0 : BitVec 32 := 1#32
  let arg6_r0 : BitVec 32 := Scf.iv c0_i32_26_r0 c1_i32_28_r0 k0_t1
  let c0_i32_79_r0 : BitVec 32 := 0#32
  let v87_r0 : BitVec 1 := Scalar.cmpi .eq arg6_r0 c0_i32_79_r0
  let v180_r0 : BitVec 1 := Scalar.ori v179_r0 v87_r0
  let c0_i32_133_r0 : BitVec 32 := 0#32
  let v181_r0 : BitVec 1 := Scalar.cmpi .sge arg6_r0 c0_i32_133_r0
  let v182_r0 : BitVec 1 := Scalar.andi v180_r0 v181_r0
  let v183_r0 : BitVec 32 := Scalar.extui v182_r0
  let c0_i32_134_r0 : BitVec 32 := 0#32
  let v184_r0 : BitVec 1 := Scalar.cmpi .ne v183_r0 c0_i32_134_r0
  v184_r0

def k0_off7 (arg8_r0 : BitVec 32) : Fin 3 → Nat :=
  let c2_i32_4119_r0 : BitVec 32 := 2#32
  let v2774_r0 : BitVec 32 := Scalar.remui arg8_r0 c2_i32_4119_r0
  let c0_i32_4120_r0 : BitVec 32 := 0#32
  let c0_i32_4121_r0 : BitVec 32 := 0#32
  ![v2774_r0.toNat, 0, 0]
def k0_off8 (arg13_r0 : BitVec 32) : Fin 2 → Nat :=
  let c256_i32_4118_r0 : BitVec 32 := 256#32
  let c0_i32_81_r0 : BitVec 32 := 0#32
  let v89_r0 : BitVec 32 := Scalar.addi arg13_r0 c0_i32_81_r0
  let v2773_r0 : BitVec 32 := Scalar.muli c256_i32_4118_r0 v89_r0
  let c0_i32_4122_r0 : BitVec 32 := 0#32
  ![v2773_r0.toNat, 0]
def k0_off9 (arg8_r0 : BitVec 32) : Fin 3 → Nat :=
  let c2_i32_152_r0 : BitVec 32 := 2#32
  let v226_r0 : BitVec 32 := Scalar.remui arg8_r0 c2_i32_152_r0
  let v229_r0 : Index := Scalar.indexCast v226_r0
  let c0_r0 : Index := 0#32
  let c0_155_r0 : Index := 0#32
  ![v229_r0.toNat, 0, 0]

def k0_chk2 (arg8_r0 : BitVec 32) : Prop :=
  (∀ a, (k0_off9 arg8_r0) a + S1x256x2048.size a ≤ S2x256x2048.size a)
theorem k0_off9_inb : ∀ (arg8_r0 : BitVec 32) (k0_hw2 : k0_chk2 arg8_r0), ∀ a, (k0_off9 arg8_r0) a + S1x256x2048.size a ≤ S2x256x2048.size a := fun arg8_r0 k0_hw2 => k0_hw2

def k0_off10 (arg9_r0 : BitVec 32) : Fin 6 → Nat :=
  let c2_i32_153_r0 : BitVec 32 := 2#32
  let v227_r0 : BitVec 32 := Scalar.remui arg9_r0 c2_i32_153_r0
  let c0_i32_174_r0 : BitVec 32 := 0#32
  let c0_i32_175_r0 : BitVec 32 := 0#32
  let c0_i32_176_r0 : BitVec 32 := 0#32
  let c0_i32_177_r0 : BitVec 32 := 0#32
  let c0_i32_178_r0 : BitVec 32 := 0#32
  ![v227_r0.toNat, 0, 0, 0, 0, 0]

def k0_chk3 (arg9_r0 : BitVec 32) : Prop :=
  (∀ a, (k0_off10 arg9_r0) a + S1x24x1x16x16x128.size a ≤ S2x24x1x16x16x128.size a)
theorem k0_off10_inb : ∀ (arg9_r0 : BitVec 32) (k0_hw3 : k0_chk3 arg9_r0), ∀ a, (k0_off10 arg9_r0) a + S1x24x1x16x16x128.size a ≤ S2x24x1x16x16x128.size a := fun arg9_r0 k0_hw3 => k0_hw3

def k0_off11 (arg11_r0 : BitVec 32) : Fin 4 → Nat :=
  let c2_i32_154_r0 : BitVec 32 := 2#32
  let v228_r0 : BitVec 32 := Scalar.remui arg11_r0 c2_i32_154_r0
  let c0_i32_3997_r0 : BitVec 32 := 0#32
  let c0_i32_3998_r0 : BitVec 32 := 0#32
  let c0_i32_3999_r0 : BitVec 32 := 0#32
  ![v228_r0.toNat, 0, 0, 0]

def k0_chk4 (arg11_r0 : BitVec 32) : Prop :=
  (∀ a, (k0_off11 arg11_r0) a + S1x16x256x128.size a ≤ S2x16x256x128.size a)
theorem k0_off11_inb : ∀ (arg11_r0 : BitVec 32) (k0_hw4 : k0_chk4 arg11_r0), ∀ a, (k0_off11 arg11_r0) a + S1x16x256x128.size a ≤ S2x16x256x128.size a := fun arg11_r0 k0_hw4 => k0_hw4

def k0_off12 (arg9_r0 : BitVec 32) : Fin 1 → Nat :=
  let c2_i32_4118_r0 : BitVec 32 := 2#32
  let v2773_r0 : BitVec 32 := Scalar.remui arg9_r0 c2_i32_4118_r0
  ![v2773_r0.toNat]
def k0_cond6 (k0_t1 : Fin k0_t1_loop.trips) (arg13_r0 : BitVec 32) : BitVec 1 :=
  let c0_i32_81_r0 : BitVec 32 := 0#32
  let v89_r0 : BitVec 32 := Scalar.addi arg13_r0 c0_i32_81_r0
  let c0_i32_104_r0 : BitVec 32 := 0#32
  let v116_r0 : BitVec 1 := Scalar.cmpi .sgt v89_r0 c0_i32_104_r0
  let v117_r0 : BitVec 32 := Scalar.extui v116_r0
  let c0_i32_105_r0 : BitVec 32 := 0#32
  let v118_r0 : BitVec 1 := Scalar.cmpi .slt v89_r0 c0_i32_105_r0
  let v119_r0 : BitVec 32 := Scalar.extui v118_r0
  let v120_r0 : BitVec 32 := Scalar.subi v117_r0 v119_r0
  let c16_i32_103_r0 : BitVec 32 := 16#32
  let c0_i32_106_r0 : BitVec 32 := 0#32
  let v121_r0 : BitVec 1 := Scalar.cmpi .sgt c16_i32_103_r0 c0_i32_106_r0
  let v122_r0 : BitVec 32 := Scalar.extui v121_r0
  let c0_i32_107_r0 : BitVec 32 := 0#32
  let v123_r0 : BitVec 1 := Scalar.cmpi .slt c16_i32_103_r0 c0_i32_107_r0
  let v124_r0 : BitVec 32 := Scalar.extui v123_r0
  let v125_r0 : BitVec 32 := Scalar.subi v122_r0 v124_r0
  let v126_r0 : BitVec 1 := Scalar.cmpi .ne v120_r0 v125_r0
  let v127_r0 : BitVec 32 := Scalar.remsi v89_r0 c16_i32_103_r0
  let c0_i32_108_r0 : BitVec 32 := 0#32
  let v128_r0 : BitVec 1 := Scalar.cmpi .ne v127_r0 c0_i32_108_r0
  let v129_r0 : BitVec 1 := Scalar.andi v126_r0 v128_r0
  let v115_r0 : BitVec 32 := Scalar.divsi v89_r0 c16_i32_103_r0
  let c1_i32_109_r0 : BitVec 32 := 1#32
  let v130_r0 : BitVec 32 := Scalar.subi v115_r0 c1_i32_109_r0
  let v131_r0 : BitVec 32 := Scalar.select v129_r0 v130_r0 v115_r0
  let true_88_r0 : BitVec 1 := 1#1
  let c1_i32_87_r0 : BitVec 32 := 1#32
  let v95_r0 : BitVec 32 := Scalar.addi arg13_r0 c1_i32_87_r0
  let v96_r0 : BitVec 32 := Scalar.select true_88_r0 v95_r0 arg13_r0
  let c64_i32_89_r0 : BitVec 32 := 64#32
  let v97_r0 : BitVec 1 := Scalar.cmpi .eq v96_r0 c64_i32_89_r0
  let c0_i32_90_r0 : BitVec 32 := 0#32
  let v98_r0 : BitVec 32 := Scalar.select v97_r0 c0_i32_90_r0 v96_r0
  let c0_i32_91_r0 : BitVec 32 := 0#32
  let v99_r0 : BitVec 32 := Scalar.addi v98_r0 c0_i32_91_r0
  let c0_i32_117_r0 : BitVec 32 := 0#32
  let v143_r0 : BitVec 1 := Scalar.cmpi .sgt v99_r0 c0_i32_117_r0
  let v144_r0 : BitVec 32 := Scalar.extui v143_r0
  let c0_i32_118_r0 : BitVec 32 := 0#32
  let v145_r0 : BitVec 1 := Scalar.cmpi .slt v99_r0 c0_i32_118_r0
  let v146_r0 : BitVec 32 := Scalar.extui v145_r0
  let v147_r0 : BitVec 32 := Scalar.subi v144_r0 v146_r0
  let c16_i32_116_r0 : BitVec 32 := 16#32
  let c0_i32_119_r0 : BitVec 32 := 0#32
  let v148_r0 : BitVec 1 := Scalar.cmpi .sgt c16_i32_116_r0 c0_i32_119_r0
  let v149_r0 : BitVec 32 := Scalar.extui v148_r0
  let c0_i32_120_r0 : BitVec 32 := 0#32
  let v150_r0 : BitVec 1 := Scalar.cmpi .slt c16_i32_116_r0 c0_i32_120_r0
  let v151_r0 : BitVec 32 := Scalar.extui v150_r0
  let v152_r0 : BitVec 32 := Scalar.subi v149_r0 v151_r0
  let v153_r0 : BitVec 1 := Scalar.cmpi .ne v147_r0 v152_r0
  let v154_r0 : BitVec 32 := Scalar.remsi v99_r0 c16_i32_116_r0
  let c0_i32_121_r0 : BitVec 32 := 0#32
  let v155_r0 : BitVec 1 := Scalar.cmpi .ne v154_r0 c0_i32_121_r0
  let v156_r0 : BitVec 1 := Scalar.andi v153_r0 v155_r0
  let v142_r0 : BitVec 32 := Scalar.divsi v99_r0 c16_i32_116_r0
  let c1_i32_122_r0 : BitVec 32 := 1#32
  let v157_r0 : BitVec 32 := Scalar.subi v142_r0 c1_i32_122_r0
  let v158_r0 : BitVec 32 := Scalar.select v156_r0 v157_r0 v142_r0
  let v2725_r0 : BitVec 1 := Scalar.cmpi .ne v131_r0 v158_r0
  let c16_i32_110_r0 : BitVec 32 := 16#32
  let c0_i32_111_r0 : BitVec 32 := 0#32
  let v132_r0 : BitVec 1 := Scalar.cmpi .eq c16_i32_110_r0 c0_i32_111_r0
  let c1_i32_112_r0 : BitVec 32 := 1#32
  let v133_r0 : BitVec 32 := Scalar.select v132_r0 c1_i32_112_r0 c16_i32_110_r0
  let v134_r0 : BitVec 32 := Scalar.remsi v89_r0 v133_r0
  let c0_i32_114_r0 : BitVec 32 := 0#32
  let v136_r0 : BitVec 1 := Scalar.cmpi .slt v134_r0 c0_i32_114_r0
  let c0_i32_115_r0 : BitVec 32 := 0#32
  let v137_r0 : BitVec 1 := Scalar.cmpi .slt v133_r0 c0_i32_115_r0
  let v138_r0 : BitVec 1 := Scalar.xori v136_r0 v137_r0
  let c0_i32_113_r0 : BitVec 32 := 0#32
  let v135_r0 : BitVec 1 := Scalar.cmpi .ne v134_r0 c0_i32_113_r0
  let v139_r0 : BitVec 1 := Scalar.andi v138_r0 v135_r0
  let v140_r0 : BitVec 32 := Scalar.addi v134_r0 v133_r0
  let v141_r0 : BitVec 32 := Scalar.select v139_r0 v140_r0 v134_r0
  let c16_i32_123_r0 : BitVec 32 := 16#32
  let c0_i32_124_r0 : BitVec 32 := 0#32
  let v159_r0 : BitVec 1 := Scalar.cmpi .eq c16_i32_123_r0 c0_i32_124_r0
  let c1_i32_125_r0 : BitVec 32 := 1#32
  let v160_r0 : BitVec 32 := Scalar.select v159_r0 c1_i32_125_r0 c16_i32_123_r0
  let v161_r0 : BitVec 32 := Scalar.remsi v99_r0 v160_r0
  let c0_i32_127_r0 : BitVec 32 := 0#32
  let v163_r0 : BitVec 1 := Scalar.cmpi .slt v161_r0 c0_i32_127_r0
  let c0_i32_128_r0 : BitVec 32 := 0#32
  let v164_r0 : BitVec 1 := Scalar.cmpi .slt v160_r0 c0_i32_128_r0
  let v165_r0 : BitVec 1 := Scalar.xori v163_r0 v164_r0
  let c0_i32_126_r0 : BitVec 32 := 0#32
  let v162_r0 : BitVec 1 := Scalar.cmpi .ne v161_r0 c0_i32_126_r0
  let v166_r0 : BitVec 1 := Scalar.andi v165_r0 v162_r0
  let v167_r0 : BitVec 32 := Scalar.addi v161_r0 v160_r0
  let v168_r0 : BitVec 32 := Scalar.select v166_r0 v167_r0 v161_r0
  let v2726_r0 : BitVec 1 := Scalar.cmpi .ne v141_r0 v168_r0
  let v2727_r0 : BitVec 1 := Scalar.ori v2725_r0 v2726_r0
  let c0_i32_26_r0 : BitVec 32 := 0#32
  let c1_i32_28_r0 : BitVec 32 := 1#32
  let arg6_r0 : BitVec 32 := Scf.iv c0_i32_26_r0 c1_i32_28_r0 k0_t1
  let c63_i32_80_r0 : BitVec 32 := 63#32
  let v88_r0 : BitVec 1 := Scalar.cmpi .eq arg6_r0 c63_i32_80_r0
  let v2728_r0 : BitVec 1 := Scalar.ori v2727_r0 v88_r0
  let v2729_r0 : BitVec 32 := Scalar.extui v2728_r0
  let c0_i32_4096_r0 : BitVec 32 := 0#32
  let v2730_r0 : BitVec 1 := Scalar.cmpi .ne v2729_r0 c0_i32_4096_r0
  v2730_r0

def k0_off13 (arg13_r0 : BitVec 32) : Fin 5 → Nat :=
  let c0_i32_4134_r0 : BitVec 32 := 0#32
  let c1_i32_4132_r0 : BitVec 32 := 1#32
  let c0_i32_81_r0 : BitVec 32 := 0#32
  let v89_r0 : BitVec 32 := Scalar.addi arg13_r0 c0_i32_81_r0
  let c0_i32_4120_r0 : BitVec 32 := 0#32
  let v2775_r0 : BitVec 1 := Scalar.cmpi .sgt v89_r0 c0_i32_4120_r0
  let v2776_r0 : BitVec 32 := Scalar.extui v2775_r0
  let c0_i32_4121_r0 : BitVec 32 := 0#32
  let v2777_r0 : BitVec 1 := Scalar.cmpi .slt v89_r0 c0_i32_4121_r0
  let v2778_r0 : BitVec 32 := Scalar.extui v2777_r0
  let v2779_r0 : BitVec 32 := Scalar.subi v2776_r0 v2778_r0
  let c16_i32_4119_r0 : BitVec 32 := 16#32
  let c0_i32_4122_r0 : BitVec 32 := 0#32
  let v2780_r0 : BitVec 1 := Scalar.cmpi .sgt c16_i32_4119_r0 c0_i32_4122_r0
  let v2781_r0 : BitVec 32 := Scalar.extui v2780_r0
  let c0_i32_4123_r0 : BitVec 32 := 0#32
  let v2782_r0 : BitVec 1 := Scalar.cmpi .slt c16_i32_4119_r0 c0_i32_4123_r0
  let v2783_r0 : BitVec 32 := Scalar.extui v2782_r0
  let v2784_r0 : BitVec 32 := Scalar.subi v2781_r0 v2783_r0
  let v2785_r0 : BitVec 1 := Scalar.cmpi .ne v2779_r0 v2784_r0
  let v2786_r0 : BitVec 32 := Scalar.remsi v89_r0 c16_i32_4119_r0
  let c0_i32_4124_r0 : BitVec 32 := 0#32
  let v2787_r0 : BitVec 1 := Scalar.cmpi .ne v2786_r0 c0_i32_4124_r0
  let v2788_r0 : BitVec 1 := Scalar.andi v2785_r0 v2787_r0
  let v2774_r0 : BitVec 32 := Scalar.divsi v89_r0 c16_i32_4119_r0
  let c1_i32_4125_r0 : BitVec 32 := 1#32
  let v2789_r0 : BitVec 32 := Scalar.subi v2774_r0 c1_i32_4125_r0
  let v2790_r0 : BitVec 32 := Scalar.select v2788_r0 v2789_r0 v2774_r0
  let v2801_r0 : BitVec 32 := Scalar.muli c1_i32_4132_r0 v2790_r0
  let c0_i32_4135_r0 : BitVec 32 := 0#32
  let c16_i32_4133_r0 : BitVec 32 := 16#32
  let c16_i32_4126_r0 : BitVec 32 := 16#32
  let c0_i32_4127_r0 : BitVec 32 := 0#32
  let v2791_r0 : BitVec 1 := Scalar.cmpi .eq c16_i32_4126_r0 c0_i32_4127_r0
  let c1_i32_4128_r0 : BitVec 32 := 1#32
  let v2792_r0 : BitVec 32 := Scalar.select v2791_r0 c1_i32_4128_r0 c16_i32_4126_r0
  let v2793_r0 : BitVec 32 := Scalar.remsi v89_r0 v2792_r0
  let c0_i32_4130_r0 : BitVec 32 := 0#32
  let v2795_r0 : BitVec 1 := Scalar.cmpi .slt v2793_r0 c0_i32_4130_r0
  let c0_i32_4131_r0 : BitVec 32 := 0#32
  let v2796_r0 : BitVec 1 := Scalar.cmpi .slt v2792_r0 c0_i32_4131_r0
  let v2797_r0 : BitVec 1 := Scalar.xori v2795_r0 v2796_r0
  let c0_i32_4129_r0 : BitVec 32 := 0#32
  let v2794_r0 : BitVec 1 := Scalar.cmpi .ne v2793_r0 c0_i32_4129_r0
  let v2798_r0 : BitVec 1 := Scalar.andi v2797_r0 v2794_r0
  let v2799_r0 : BitVec 32 := Scalar.addi v2793_r0 v2792_r0
  let v2800_r0 : BitVec 32 := Scalar.select v2798_r0 v2799_r0 v2793_r0
  let v2802_r0 : BitVec 32 := Scalar.muli c16_i32_4133_r0 v2800_r0
  let c0_i32_4136_r0 : BitVec 32 := 0#32
  ![0, v2801_r0.toNat, 0, v2802_r0.toNat, 0]
def k0_off14 (arg9_r0 : BitVec 32) : Fin 6 → Nat :=
  let c2_i32_4118_r0 : BitVec 32 := 2#32
  let v2773_r0 : BitVec 32 := Scalar.remui arg9_r0 c2_i32_4118_r0
  let c0_i32_4137_r0 : BitVec 32 := 0#32
  let c0_i32_4138_r0 : BitVec 32 := 0#32
  let c0_i32_4139_r0 : BitVec 32 := 0#32
  let c0_i32_4140_r0 : BitVec 32 := 0#32
  let c0_i32_4141_r0 : BitVec 32 := 0#32
  ![v2773_r0.toNat, 0, 0, 0, 0, 0]
def k0_off15 (arg11_r0 : BitVec 32) : Fin 1 → Nat :=
  let c2_i32_4118_r0 : BitVec 32 := 2#32
  let v2773_r0 : BitVec 32 := Scalar.remui arg11_r0 c2_i32_4118_r0
  ![v2773_r0.toNat]
def k0_cond7 (k0_t1 : Fin k0_t1_loop.trips) (arg13_r0 : BitVec 32) : BitVec 1 :=
  let c0_i32_81_r0 : BitVec 32 := 0#32
  let v89_r0 : BitVec 32 := Scalar.addi arg13_r0 c0_i32_81_r0
  let true_88_r0 : BitVec 1 := 1#1
  let c1_i32_87_r0 : BitVec 32 := 1#32
  let v95_r0 : BitVec 32 := Scalar.addi arg13_r0 c1_i32_87_r0
  let v96_r0 : BitVec 32 := Scalar.select true_88_r0 v95_r0 arg13_r0
  let c64_i32_89_r0 : BitVec 32 := 64#32
  let v97_r0 : BitVec 1 := Scalar.cmpi .eq v96_r0 c64_i32_89_r0
  let c0_i32_90_r0 : BitVec 32 := 0#32
  let v98_r0 : BitVec 32 := Scalar.select v97_r0 c0_i32_90_r0 v96_r0
  let c0_i32_91_r0 : BitVec 32 := 0#32
  let v99_r0 : BitVec 32 := Scalar.addi v98_r0 c0_i32_91_r0
  let v2734_r0 : BitVec 1 := Scalar.cmpi .ne v89_r0 v99_r0
  let c0_i32_26_r0 : BitVec 32 := 0#32
  let c1_i32_28_r0 : BitVec 32 := 1#32
  let arg6_r0 : BitVec 32 := Scf.iv c0_i32_26_r0 c1_i32_28_r0 k0_t1
  let c63_i32_80_r0 : BitVec 32 := 63#32
  let v88_r0 : BitVec 1 := Scalar.cmpi .eq arg6_r0 c63_i32_80_r0
  let v2735_r0 : BitVec 1 := Scalar.ori v2734_r0 v88_r0
  let v2736_r0 : BitVec 32 := Scalar.extui v2735_r0
  let c0_i32_4099_r0 : BitVec 32 := 0#32
  let v2737_r0 : BitVec 1 := Scalar.cmpi .ne v2736_r0 c0_i32_4099_r0
  v2737_r0

def k0_off16 (arg13_r0 : BitVec 32) : Fin 3 → Nat :=
  let c0_i32_4120_r0 : BitVec 32 := 0#32
  let c256_i32_4119_r0 : BitVec 32 := 256#32
  let c0_i32_81_r0 : BitVec 32 := 0#32
  let v89_r0 : BitVec 32 := Scalar.addi arg13_r0 c0_i32_81_r0
  let v2774_r0 : BitVec 32 := Scalar.muli c256_i32_4119_r0 v89_r0
  let c0_i32_4121_r0 : BitVec 32 := 0#32
  ![0, v2774_r0.toNat, 0]
def k0_off17 (arg11_r0 : BitVec 32) : Fin 4 → Nat :=
  let c2_i32_4118_r0 : BitVec 32 := 2#32
  let v2773_r0 : BitVec 32 := Scalar.remui arg11_r0 c2_i32_4118_r0
  let c0_i32_4122_r0 : BitVec 32 := 0#32
  let c0_i32_4123_r0 : BitVec 32 := 0#32
  let c0_i32_4124_r0 : BitVec 32 := 0#32
  ![v2773_r0.toNat, 0, 0, 0]
def k0_off18 (arg10_r0 : BitVec 32) : Fin 1 → Nat :=
  let c2_i32_4118_r0 : BitVec 32 := 2#32
  let v2773_r0 : BitVec 32 := Scalar.remui arg10_r0 c2_i32_4118_r0
  ![v2773_r0.toNat]
def k0_cond9 (k0_t1 : Fin k0_t1_loop.trips) (arg13_r0 : BitVec 32) : BitVec 1 :=
  let c0_i32_81_r0 : BitVec 32 := 0#32
  let v89_r0 : BitVec 32 := Scalar.addi arg13_r0 c0_i32_81_r0
  let c0_i32_104_r0 : BitVec 32 := 0#32
  let v116_r0 : BitVec 1 := Scalar.cmpi .sgt v89_r0 c0_i32_104_r0
  let v117_r0 : BitVec 32 := Scalar.extui v116_r0
  let c0_i32_105_r0 : BitVec 32 := 0#32
  let v118_r0 : BitVec 1 := Scalar.cmpi .slt v89_r0 c0_i32_105_r0
  let v119_r0 : BitVec 32 := Scalar.extui v118_r0
  let v120_r0 : BitVec 32 := Scalar.subi v117_r0 v119_r0
  let c16_i32_103_r0 : BitVec 32 := 16#32
  let c0_i32_106_r0 : BitVec 32 := 0#32
  let v121_r0 : BitVec 1 := Scalar.cmpi .sgt c16_i32_103_r0 c0_i32_106_r0
  let v122_r0 : BitVec 32 := Scalar.extui v121_r0
  let c0_i32_107_r0 : BitVec 32 := 0#32
  let v123_r0 : BitVec 1 := Scalar.cmpi .slt c16_i32_103_r0 c0_i32_107_r0
  let v124_r0 : BitVec 32 := Scalar.extui v123_r0
  let v125_r0 : BitVec 32 := Scalar.subi v122_r0 v124_r0
  let v126_r0 : BitVec 1 := Scalar.cmpi .ne v120_r0 v125_r0
  let v127_r0 : BitVec 32 := Scalar.remsi v89_r0 c16_i32_103_r0
  let c0_i32_108_r0 : BitVec 32 := 0#32
  let v128_r0 : BitVec 1 := Scalar.cmpi .ne v127_r0 c0_i32_108_r0
  let v129_r0 : BitVec 1 := Scalar.andi v126_r0 v128_r0
  let v115_r0 : BitVec 32 := Scalar.divsi v89_r0 c16_i32_103_r0
  let c1_i32_109_r0 : BitVec 32 := 1#32
  let v130_r0 : BitVec 32 := Scalar.subi v115_r0 c1_i32_109_r0
  let v131_r0 : BitVec 32 := Scalar.select v129_r0 v130_r0 v115_r0
  let true_83_r0 : BitVec 1 := 1#1
  let c1_i32_82_r0 : BitVec 32 := 1#32
  let v90_r0 : BitVec 32 := Scalar.subi arg13_r0 c1_i32_82_r0
  let v91_r0 : BitVec 32 := Scalar.select true_83_r0 v90_r0 arg13_r0
  let c_m1_i32_84_r0 : BitVec 32 := 4294967295#32
  let v92_r0 : BitVec 1 := Scalar.cmpi .eq v91_r0 c_m1_i32_84_r0
  let c63_i32_85_r0 : BitVec 32 := 63#32
  let v93_r0 : BitVec 32 := Scalar.select v92_r0 c63_i32_85_r0 v91_r0
  let c0_i32_86_r0 : BitVec 32 := 0#32
  let v94_r0 : BitVec 32 := Scalar.addi v93_r0 c0_i32_86_r0
  let c0_i32_136_r0 : BitVec 32 := 0#32
  let v186_r0 : BitVec 1 := Scalar.cmpi .sgt v94_r0 c0_i32_136_r0
  let v187_r0 : BitVec 32 := Scalar.extui v186_r0
  let c0_i32_137_r0 : BitVec 32 := 0#32
  let v188_r0 : BitVec 1 := Scalar.cmpi .slt v94_r0 c0_i32_137_r0
  let v189_r0 : BitVec 32 := Scalar.extui v188_r0
  let v190_r0 : BitVec 32 := Scalar.subi v187_r0 v189_r0
  let c16_i32_135_r0 : BitVec 32 := 16#32
  let c0_i32_138_r0 : BitVec 32 := 0#32
  let v191_r0 : BitVec 1 := Scalar.cmpi .sgt c16_i32_135_r0 c0_i32_138_r0
  let v192_r0 : BitVec 32 := Scalar.extui v191_r0
  let c0_i32_139_r0 : BitVec 32 := 0#32
  let v193_r0 : BitVec 1 := Scalar.cmpi .slt c16_i32_135_r0 c0_i32_139_r0
  let v194_r0 : BitVec 32 := Scalar.extui v193_r0
  let v195_r0 : BitVec 32 := Scalar.subi v192_r0 v194_r0
  let v196_r0 : BitVec 1 := Scalar.cmpi .ne v190_r0 v195_r0
  let v197_r0 : BitVec 32 := Scalar.remsi v94_r0 c16_i32_135_r0
  let c0_i32_140_r0 : BitVec 32 := 0#32
  let v198_r0 : BitVec 1 := Scalar.cmpi .ne v197_r0 c0_i32_140_r0
  let v199_r0 : BitVec 1 := Scalar.andi v196_r0 v198_r0
  let v185_r0 : BitVec 32 := Scalar.divsi v94_r0 c16_i32_135_r0
  let c1_i32_141_r0 : BitVec 32 := 1#32
  let v200_r0 : BitVec 32 := Scalar.subi v185_r0 c1_i32_141_r0
  let v201_r0 : BitVec 32 := Scalar.select v199_r0 v200_r0 v185_r0
  let v2747_r0 : BitVec 1 := Scalar.cmpi .ne v131_r0 v201_r0
  let c16_i32_110_r0 : BitVec 32 := 16#32
  let c0_i32_111_r0 : BitVec 32 := 0#32
  let v132_r0 : BitVec 1 := Scalar.cmpi .eq c16_i32_110_r0 c0_i32_111_r0
  let c1_i32_112_r0 : BitVec 32 := 1#32
  let v133_r0 : BitVec 32 := Scalar.select v132_r0 c1_i32_112_r0 c16_i32_110_r0
  let v134_r0 : BitVec 32 := Scalar.remsi v89_r0 v133_r0
  let c0_i32_114_r0 : BitVec 32 := 0#32
  let v136_r0 : BitVec 1 := Scalar.cmpi .slt v134_r0 c0_i32_114_r0
  let c0_i32_115_r0 : BitVec 32 := 0#32
  let v137_r0 : BitVec 1 := Scalar.cmpi .slt v133_r0 c0_i32_115_r0
  let v138_r0 : BitVec 1 := Scalar.xori v136_r0 v137_r0
  let c0_i32_113_r0 : BitVec 32 := 0#32
  let v135_r0 : BitVec 1 := Scalar.cmpi .ne v134_r0 c0_i32_113_r0
  let v139_r0 : BitVec 1 := Scalar.andi v138_r0 v135_r0
  let v140_r0 : BitVec 32 := Scalar.addi v134_r0 v133_r0
  let v141_r0 : BitVec 32 := Scalar.select v139_r0 v140_r0 v134_r0
  let c16_i32_142_r0 : BitVec 32 := 16#32
  let c0_i32_143_r0 : BitVec 32 := 0#32
  let v202_r0 : BitVec 1 := Scalar.cmpi .eq c16_i32_142_r0 c0_i32_143_r0
  let c1_i32_144_r0 : BitVec 32 := 1#32
  let v203_r0 : BitVec 32 := Scalar.select v202_r0 c1_i32_144_r0 c16_i32_142_r0
  let v204_r0 : BitVec 32 := Scalar.remsi v94_r0 v203_r0
  let c0_i32_146_r0 : BitVec 32 := 0#32
  let v206_r0 : BitVec 1 := Scalar.cmpi .slt v204_r0 c0_i32_146_r0
  let c0_i32_147_r0 : BitVec 32 := 0#32
  let v207_r0 : BitVec 1 := Scalar.cmpi .slt v203_r0 c0_i32_147_r0
  let v208_r0 : BitVec 1 := Scalar.xori v206_r0 v207_r0
  let c0_i32_145_r0 : BitVec 32 := 0#32
  let v205_r0 : BitVec 1 := Scalar.cmpi .ne v204_r0 c0_i32_145_r0
  let v209_r0 : BitVec 1 := Scalar.andi v208_r0 v205_r0
  let v210_r0 : BitVec 32 := Scalar.addi v204_r0 v203_r0
  let v211_r0 : BitVec 32 := Scalar.select v209_r0 v210_r0 v204_r0
  let v2748_r0 : BitVec 1 := Scalar.cmpi .ne v141_r0 v211_r0
  let v2749_r0 : BitVec 1 := Scalar.ori v2747_r0 v2748_r0
  let c0_i32_26_r0 : BitVec 32 := 0#32
  let c1_i32_28_r0 : BitVec 32 := 1#32
  let arg6_r0 : BitVec 32 := Scf.iv c0_i32_26_r0 c1_i32_28_r0 k0_t1
  let c0_i32_79_r0 : BitVec 32 := 0#32
  let v87_r0 : BitVec 1 := Scalar.cmpi .eq arg6_r0 c0_i32_79_r0
  let true_4105_r0 : BitVec 1 := 1#1
  let v2750_r0 : BitVec 1 := Scalar.xori v87_r0 true_4105_r0
  let v2751_r0 : BitVec 1 := Scalar.andi v2749_r0 v2750_r0
  let v2752_r0 : BitVec 32 := Scalar.extui v2751_r0
  let c0_i32_4106_r0 : BitVec 32 := 0#32
  let v2753_r0 : BitVec 1 := Scalar.cmpi .ne v2752_r0 c0_i32_4106_r0
  v2753_r0

def k0_off19 (arg13_r0 : BitVec 32) : Fin 5 → Nat :=
  let c0_i32_4134_r0 : BitVec 32 := 0#32
  let c1_i32_4132_r0 : BitVec 32 := 1#32
  let true_83_r0 : BitVec 1 := 1#1
  let c1_i32_82_r0 : BitVec 32 := 1#32
  let v90_r0 : BitVec 32 := Scalar.subi arg13_r0 c1_i32_82_r0
  let v91_r0 : BitVec 32 := Scalar.select true_83_r0 v90_r0 arg13_r0
  let c_m1_i32_84_r0 : BitVec 32 := 4294967295#32
  let v92_r0 : BitVec 1 := Scalar.cmpi .eq v91_r0 c_m1_i32_84_r0
  let c63_i32_85_r0 : BitVec 32 := 63#32
  let v93_r0 : BitVec 32 := Scalar.select v92_r0 c63_i32_85_r0 v91_r0
  let c0_i32_86_r0 : BitVec 32 := 0#32
  let v94_r0 : BitVec 32 := Scalar.addi v93_r0 c0_i32_86_r0
  let c0_i32_4120_r0 : BitVec 32 := 0#32
  let v2775_r0 : BitVec 1 := Scalar.cmpi .sgt v94_r0 c0_i32_4120_r0
  let v2776_r0 : BitVec 32 := Scalar.extui v2775_r0
  let c0_i32_4121_r0 : BitVec 32 := 0#32
  let v2777_r0 : BitVec 1 := Scalar.cmpi .slt v94_r0 c0_i32_4121_r0
  let v2778_r0 : BitVec 32 := Scalar.extui v2777_r0
  let v2779_r0 : BitVec 32 := Scalar.subi v2776_r0 v2778_r0
  let c16_i32_4119_r0 : BitVec 32 := 16#32
  let c0_i32_4122_r0 : BitVec 32 := 0#32
  let v2780_r0 : BitVec 1 := Scalar.cmpi .sgt c16_i32_4119_r0 c0_i32_4122_r0
  let v2781_r0 : BitVec 32 := Scalar.extui v2780_r0
  let c0_i32_4123_r0 : BitVec 32 := 0#32
  let v2782_r0 : BitVec 1 := Scalar.cmpi .slt c16_i32_4119_r0 c0_i32_4123_r0
  let v2783_r0 : BitVec 32 := Scalar.extui v2782_r0
  let v2784_r0 : BitVec 32 := Scalar.subi v2781_r0 v2783_r0
  let v2785_r0 : BitVec 1 := Scalar.cmpi .ne v2779_r0 v2784_r0
  let v2786_r0 : BitVec 32 := Scalar.remsi v94_r0 c16_i32_4119_r0
  let c0_i32_4124_r0 : BitVec 32 := 0#32
  let v2787_r0 : BitVec 1 := Scalar.cmpi .ne v2786_r0 c0_i32_4124_r0
  let v2788_r0 : BitVec 1 := Scalar.andi v2785_r0 v2787_r0
  let v2774_r0 : BitVec 32 := Scalar.divsi v94_r0 c16_i32_4119_r0
  let c1_i32_4125_r0 : BitVec 32 := 1#32
  let v2789_r0 : BitVec 32 := Scalar.subi v2774_r0 c1_i32_4125_r0
  let v2790_r0 : BitVec 32 := Scalar.select v2788_r0 v2789_r0 v2774_r0
  let v2801_r0 : BitVec 32 := Scalar.muli c1_i32_4132_r0 v2790_r0
  let c0_i32_4135_r0 : BitVec 32 := 0#32
  let c16_i32_4133_r0 : BitVec 32 := 16#32
  let c16_i32_4126_r0 : BitVec 32 := 16#32
  let c0_i32_4127_r0 : BitVec 32 := 0#32
  let v2791_r0 : BitVec 1 := Scalar.cmpi .eq c16_i32_4126_r0 c0_i32_4127_r0
  let c1_i32_4128_r0 : BitVec 32 := 1#32
  let v2792_r0 : BitVec 32 := Scalar.select v2791_r0 c1_i32_4128_r0 c16_i32_4126_r0
  let v2793_r0 : BitVec 32 := Scalar.remsi v94_r0 v2792_r0
  let c0_i32_4130_r0 : BitVec 32 := 0#32
  let v2795_r0 : BitVec 1 := Scalar.cmpi .slt v2793_r0 c0_i32_4130_r0
  let c0_i32_4131_r0 : BitVec 32 := 0#32
  let v2796_r0 : BitVec 1 := Scalar.cmpi .slt v2792_r0 c0_i32_4131_r0
  let v2797_r0 : BitVec 1 := Scalar.xori v2795_r0 v2796_r0
  let c0_i32_4129_r0 : BitVec 32 := 0#32
  let v2794_r0 : BitVec 1 := Scalar.cmpi .ne v2793_r0 c0_i32_4129_r0
  let v2798_r0 : BitVec 1 := Scalar.andi v2797_r0 v2794_r0
  let v2799_r0 : BitVec 32 := Scalar.addi v2793_r0 v2792_r0
  let v2800_r0 : BitVec 32 := Scalar.select v2798_r0 v2799_r0 v2793_r0
  let v2802_r0 : BitVec 32 := Scalar.muli c16_i32_4133_r0 v2800_r0
  let c0_i32_4136_r0 : BitVec 32 := 0#32
  ![0, v2801_r0.toNat, 0, v2802_r0.toNat, 0]
def k0_off20 (arg10_r0 : BitVec 32) : Fin 6 → Nat :=
  let c2_i32_4118_r0 : BitVec 32 := 2#32
  let v2773_r0 : BitVec 32 := Scalar.remui arg10_r0 c2_i32_4118_r0
  let c0_i32_4137_r0 : BitVec 32 := 0#32
  let c0_i32_4138_r0 : BitVec 32 := 0#32
  let c0_i32_4139_r0 : BitVec 32 := 0#32
  let c0_i32_4140_r0 : BitVec 32 := 0#32
  let c0_i32_4141_r0 : BitVec 32 := 0#32
  ![v2773_r0.toNat, 0, 0, 0, 0, 0]
def k0_off21 (arg12_r0 : BitVec 32) : Fin 1 → Nat :=
  let c2_i32_4118_r0 : BitVec 32 := 2#32
  let v2773_r0 : BitVec 32 := Scalar.remui arg12_r0 c2_i32_4118_r0
  ![v2773_r0.toNat]
def k0_cond10 (k0_t1 : Fin k0_t1_loop.trips) (arg13_r0 : BitVec 32) : BitVec 1 :=
  let c0_i32_81_r0 : BitVec 32 := 0#32
  let v89_r0 : BitVec 32 := Scalar.addi arg13_r0 c0_i32_81_r0
  let true_83_r0 : BitVec 1 := 1#1
  let c1_i32_82_r0 : BitVec 32 := 1#32
  let v90_r0 : BitVec 32 := Scalar.subi arg13_r0 c1_i32_82_r0
  let v91_r0 : BitVec 32 := Scalar.select true_83_r0 v90_r0 arg13_r0
  let c_m1_i32_84_r0 : BitVec 32 := 4294967295#32
  let v92_r0 : BitVec 1 := Scalar.cmpi .eq v91_r0 c_m1_i32_84_r0
  let c63_i32_85_r0 : BitVec 32 := 63#32
  let v93_r0 : BitVec 32 := Scalar.select v92_r0 c63_i32_85_r0 v91_r0
  let c0_i32_86_r0 : BitVec 32 := 0#32
  let v94_r0 : BitVec 32 := Scalar.addi v93_r0 c0_i32_86_r0
  let v2757_r0 : BitVec 1 := Scalar.cmpi .ne v89_r0 v94_r0
  let c0_i32_26_r0 : BitVec 32 := 0#32
  let c1_i32_28_r0 : BitVec 32 := 1#32
  let arg6_r0 : BitVec 32 := Scf.iv c0_i32_26_r0 c1_i32_28_r0 k0_t1
  let c0_i32_79_r0 : BitVec 32 := 0#32
  let v87_r0 : BitVec 1 := Scalar.cmpi .eq arg6_r0 c0_i32_79_r0
  let true_4109_r0 : BitVec 1 := 1#1
  let v2758_r0 : BitVec 1 := Scalar.xori v87_r0 true_4109_r0
  let v2759_r0 : BitVec 1 := Scalar.andi v2757_r0 v2758_r0
  let v2760_r0 : BitVec 32 := Scalar.extui v2759_r0
  let c0_i32_4110_r0 : BitVec 32 := 0#32
  let v2761_r0 : BitVec 1 := Scalar.cmpi .ne v2760_r0 c0_i32_4110_r0
  v2761_r0

def k0_off22 (arg13_r0 : BitVec 32) : Fin 3 → Nat :=
  let c0_i32_4120_r0 : BitVec 32 := 0#32
  let c256_i32_4119_r0 : BitVec 32 := 256#32
  let true_83_r0 : BitVec 1 := 1#1
  let c1_i32_82_r0 : BitVec 32 := 1#32
  let v90_r0 : BitVec 32 := Scalar.subi arg13_r0 c1_i32_82_r0
  let v91_r0 : BitVec 32 := Scalar.select true_83_r0 v90_r0 arg13_r0
  let c_m1_i32_84_r0 : BitVec 32 := 4294967295#32
  let v92_r0 : BitVec 1 := Scalar.cmpi .eq v91_r0 c_m1_i32_84_r0
  let c63_i32_85_r0 : BitVec 32 := 63#32
  let v93_r0 : BitVec 32 := Scalar.select v92_r0 c63_i32_85_r0 v91_r0
  let c0_i32_86_r0 : BitVec 32 := 0#32
  let v94_r0 : BitVec 32 := Scalar.addi v93_r0 c0_i32_86_r0
  let v2774_r0 : BitVec 32 := Scalar.muli c256_i32_4119_r0 v94_r0
  let c0_i32_4121_r0 : BitVec 32 := 0#32
  ![0, v2774_r0.toNat, 0]
def k0_off23 (arg12_r0 : BitVec 32) : Fin 4 → Nat :=
  let c2_i32_4118_r0 : BitVec 32 := 2#32
  let v2773_r0 : BitVec 32 := Scalar.remui arg12_r0 c2_i32_4118_r0
  let c0_i32_4122_r0 : BitVec 32 := 0#32
  let c0_i32_4123_r0 : BitVec 32 := 0#32
  let c0_i32_4124_r0 : BitVec 32 := 0#32
  ![v2773_r0.toNat, 0, 0, 0]

def k0_chk1 (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) : Prop :=
  (∀ (k0_h1 : k0_cond1 k0_t1 arg13_r0 = 1#1), ∀ a, (k0_off3 arg7_r0) a + S1.size a ≤ S2.size a) ∧
  (∀ (k0_h1 : k0_cond1 k0_t1 arg13_r0 = 1#1), ∀ a, (k0_off4 arg7_r0) a + S1x256x2048.size a ≤ S2x256x2048.size a) ∧
  (∀ (k0_h1 : k0_cond1 k0_t1 arg13_r0 = 1#1), ∀ a, (k0_off5 arg13_r0) a + S256x2048.size a ≤ S16384x2048.size a) ∧
  (∀ (k0_h2 : k0_cond2 k0_t1 arg13_r0 = 1#1), ∀ a, (k0_off6 arg8_r0) a + S1.size a ≤ S2.size a) ∧
  (∀ (k0_h2 : k0_cond2 k0_t1 arg13_r0 = 1#1), ∀ a, (k0_off7 arg8_r0) a + S1x256x2048.size a ≤ S2x256x2048.size a) ∧
  (∀ (k0_h2 : k0_cond2 k0_t1 arg13_r0 = 1#1), ∀ a, (k0_off8 arg13_r0) a + S256x2048.size a ≤ S16384x2048.size a) ∧
  (∀ (k0_h6 : k0_cond6 k0_t1 arg13_r0 = 1#1), ∀ a, (k0_off12 arg9_r0) a + S1.size a ≤ S2.size a) ∧
  (∀ (k0_h6 : k0_cond6 k0_t1 arg13_r0 = 1#1), ∀ a, (k0_off13 arg13_r0) a + S24x1x16x16x128.size a ≤ S24x4x16x256x128.size a) ∧
  (∀ (k0_h6 : k0_cond6 k0_t1 arg13_r0 = 1#1), ∀ a, (k0_off14 arg9_r0) a + S1x24x1x16x16x128.size a ≤ S2x24x1x16x16x128.size a) ∧
  (∀ (k0_h7 : k0_cond7 k0_t1 arg13_r0 = 1#1), ∀ a, (k0_off15 arg11_r0) a + S1.size a ≤ S2.size a) ∧
  (∀ (k0_h7 : k0_cond7 k0_t1 arg13_r0 = 1#1), ∀ a, (k0_off16 arg13_r0) a + S16x256x128.size a ≤ S16x16384x128.size a) ∧
  (∀ (k0_h7 : k0_cond7 k0_t1 arg13_r0 = 1#1), ∀ a, (k0_off17 arg11_r0) a + S1x16x256x128.size a ≤ S2x16x256x128.size a) ∧
  (∀ (k0_h9 : k0_cond9 k0_t1 arg13_r0 = 1#1), ∀ a, (k0_off18 arg10_r0) a + S1.size a ≤ S2.size a) ∧
  (∀ (k0_h9 : k0_cond9 k0_t1 arg13_r0 = 1#1), ∀ a, (k0_off19 arg13_r0) a + S24x1x16x16x128.size a ≤ S24x4x16x256x128.size a) ∧
  (∀ (k0_h9 : k0_cond9 k0_t1 arg13_r0 = 1#1), ∀ a, (k0_off20 arg10_r0) a + S1x24x1x16x16x128.size a ≤ S2x24x1x16x16x128.size a) ∧
  (∀ (k0_h10 : k0_cond10 k0_t1 arg13_r0 = 1#1), ∀ a, (k0_off21 arg12_r0) a + S1.size a ≤ S2.size a) ∧
  (∀ (k0_h10 : k0_cond10 k0_t1 arg13_r0 = 1#1), ∀ a, (k0_off22 arg13_r0) a + S16x256x128.size a ≤ S16x16384x128.size a) ∧
  (∀ (k0_h10 : k0_cond10 k0_t1 arg13_r0 = 1#1), ∀ a, (k0_off23 arg12_r0) a + S1x16x256x128.size a ≤ S2x16x256x128.size a)
theorem k0_off3_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h1 : k0_cond1 k0_t1 arg13_r0 = 1#1), ∀ a, (k0_off3 arg7_r0) a + S1.size a ≤ S2.size a := fun k0_t1 arg7_r0 arg8_r0 arg9_r0 arg10_r0 arg11_r0 arg12_r0 arg13_r0 k0_hw1 k0_h1 => k0_hw1.1 k0_h1
theorem k0_off4_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h1 : k0_cond1 k0_t1 arg13_r0 = 1#1), ∀ a, (k0_off4 arg7_r0) a + S1x256x2048.size a ≤ S2x256x2048.size a := fun k0_t1 arg7_r0 arg8_r0 arg9_r0 arg10_r0 arg11_r0 arg12_r0 arg13_r0 k0_hw1 k0_h1 => k0_hw1.2.1 k0_h1
theorem k0_off5_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h1 : k0_cond1 k0_t1 arg13_r0 = 1#1), ∀ a, (k0_off5 arg13_r0) a + S256x2048.size a ≤ S16384x2048.size a := fun k0_t1 arg7_r0 arg8_r0 arg9_r0 arg10_r0 arg11_r0 arg12_r0 arg13_r0 k0_hw1 k0_h1 => k0_hw1.2.2.1 k0_h1
theorem k0_off6_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h2 : k0_cond2 k0_t1 arg13_r0 = 1#1), ∀ a, (k0_off6 arg8_r0) a + S1.size a ≤ S2.size a := fun k0_t1 arg7_r0 arg8_r0 arg9_r0 arg10_r0 arg11_r0 arg12_r0 arg13_r0 k0_hw1 k0_h2 => k0_hw1.2.2.2.1 k0_h2
theorem k0_off7_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h2 : k0_cond2 k0_t1 arg13_r0 = 1#1), ∀ a, (k0_off7 arg8_r0) a + S1x256x2048.size a ≤ S2x256x2048.size a := fun k0_t1 arg7_r0 arg8_r0 arg9_r0 arg10_r0 arg11_r0 arg12_r0 arg13_r0 k0_hw1 k0_h2 => k0_hw1.2.2.2.2.1 k0_h2
theorem k0_off8_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h2 : k0_cond2 k0_t1 arg13_r0 = 1#1), ∀ a, (k0_off8 arg13_r0) a + S256x2048.size a ≤ S16384x2048.size a := fun k0_t1 arg7_r0 arg8_r0 arg9_r0 arg10_r0 arg11_r0 arg12_r0 arg13_r0 k0_hw1 k0_h2 => k0_hw1.2.2.2.2.2.1 k0_h2
theorem k0_off12_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h6 : k0_cond6 k0_t1 arg13_r0 = 1#1), ∀ a, (k0_off12 arg9_r0) a + S1.size a ≤ S2.size a := fun k0_t1 arg7_r0 arg8_r0 arg9_r0 arg10_r0 arg11_r0 arg12_r0 arg13_r0 k0_hw1 k0_h6 => k0_hw1.2.2.2.2.2.2.1 k0_h6
theorem k0_off13_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h6 : k0_cond6 k0_t1 arg13_r0 = 1#1), ∀ a, (k0_off13 arg13_r0) a + S24x1x16x16x128.size a ≤ S24x4x16x256x128.size a := fun k0_t1 arg7_r0 arg8_r0 arg9_r0 arg10_r0 arg11_r0 arg12_r0 arg13_r0 k0_hw1 k0_h6 => k0_hw1.2.2.2.2.2.2.2.1 k0_h6
theorem k0_off14_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h6 : k0_cond6 k0_t1 arg13_r0 = 1#1), ∀ a, (k0_off14 arg9_r0) a + S1x24x1x16x16x128.size a ≤ S2x24x1x16x16x128.size a := fun k0_t1 arg7_r0 arg8_r0 arg9_r0 arg10_r0 arg11_r0 arg12_r0 arg13_r0 k0_hw1 k0_h6 => k0_hw1.2.2.2.2.2.2.2.2.1 k0_h6
theorem k0_off15_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h7 : k0_cond7 k0_t1 arg13_r0 = 1#1), ∀ a, (k0_off15 arg11_r0) a + S1.size a ≤ S2.size a := fun k0_t1 arg7_r0 arg8_r0 arg9_r0 arg10_r0 arg11_r0 arg12_r0 arg13_r0 k0_hw1 k0_h7 => k0_hw1.2.2.2.2.2.2.2.2.2.1 k0_h7
theorem k0_off16_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h7 : k0_cond7 k0_t1 arg13_r0 = 1#1), ∀ a, (k0_off16 arg13_r0) a + S16x256x128.size a ≤ S16x16384x128.size a := fun k0_t1 arg7_r0 arg8_r0 arg9_r0 arg10_r0 arg11_r0 arg12_r0 arg13_r0 k0_hw1 k0_h7 => k0_hw1.2.2.2.2.2.2.2.2.2.2.1 k0_h7
theorem k0_off17_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h7 : k0_cond7 k0_t1 arg13_r0 = 1#1), ∀ a, (k0_off17 arg11_r0) a + S1x16x256x128.size a ≤ S2x16x256x128.size a := fun k0_t1 arg7_r0 arg8_r0 arg9_r0 arg10_r0 arg11_r0 arg12_r0 arg13_r0 k0_hw1 k0_h7 => k0_hw1.2.2.2.2.2.2.2.2.2.2.2.1 k0_h7
theorem k0_off18_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h9 : k0_cond9 k0_t1 arg13_r0 = 1#1), ∀ a, (k0_off18 arg10_r0) a + S1.size a ≤ S2.size a := fun k0_t1 arg7_r0 arg8_r0 arg9_r0 arg10_r0 arg11_r0 arg12_r0 arg13_r0 k0_hw1 k0_h9 => k0_hw1.2.2.2.2.2.2.2.2.2.2.2.2.1 k0_h9
theorem k0_off19_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h9 : k0_cond9 k0_t1 arg13_r0 = 1#1), ∀ a, (k0_off19 arg13_r0) a + S24x1x16x16x128.size a ≤ S24x4x16x256x128.size a := fun k0_t1 arg7_r0 arg8_r0 arg9_r0 arg10_r0 arg11_r0 arg12_r0 arg13_r0 k0_hw1 k0_h9 => k0_hw1.2.2.2.2.2.2.2.2.2.2.2.2.2.1 k0_h9
theorem k0_off20_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h9 : k0_cond9 k0_t1 arg13_r0 = 1#1), ∀ a, (k0_off20 arg10_r0) a + S1x24x1x16x16x128.size a ≤ S2x24x1x16x16x128.size a := fun k0_t1 arg7_r0 arg8_r0 arg9_r0 arg10_r0 arg11_r0 arg12_r0 arg13_r0 k0_hw1 k0_h9 => k0_hw1.2.2.2.2.2.2.2.2.2.2.2.2.2.2.1 k0_h9
theorem k0_off21_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h10 : k0_cond10 k0_t1 arg13_r0 = 1#1), ∀ a, (k0_off21 arg12_r0) a + S1.size a ≤ S2.size a := fun k0_t1 arg7_r0 arg8_r0 arg9_r0 arg10_r0 arg11_r0 arg12_r0 arg13_r0 k0_hw1 k0_h10 => k0_hw1.2.2.2.2.2.2.2.2.2.2.2.2.2.2.2.1 k0_h10
theorem k0_off22_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h10 : k0_cond10 k0_t1 arg13_r0 = 1#1), ∀ a, (k0_off22 arg13_r0) a + S16x256x128.size a ≤ S16x16384x128.size a := fun k0_t1 arg7_r0 arg8_r0 arg9_r0 arg10_r0 arg11_r0 arg12_r0 arg13_r0 k0_hw1 k0_h10 => k0_hw1.2.2.2.2.2.2.2.2.2.2.2.2.2.2.2.2.1 k0_h10
theorem k0_off23_inb : ∀ (k0_t1 : Fin k0_t1_loop.trips) (arg7_r0 : BitVec 32) (arg8_r0 : BitVec 32) (arg9_r0 : BitVec 32) (arg10_r0 : BitVec 32) (arg11_r0 : BitVec 32) (arg12_r0 : BitVec 32) (arg13_r0 : BitVec 32) (k0_hw1 : k0_chk1 k0_t1 arg7_r0 arg8_r0 arg9_r0 arg10_r0 arg11_r0 arg12_r0 arg13_r0), ∀ (k0_h10 : k0_cond10 k0_t1 arg13_r0 = 1#1), ∀ a, (k0_off23 arg12_r0) a + S1x16x256x128.size a ≤ S2x16x256x128.size a := fun k0_t1 arg7_r0 arg8_r0 arg9_r0 arg10_r0 arg11_r0 arg12_r0 arg13_r0 k0_hw1 k0_h10 => k0_hw1.2.2.2.2.2.2.2.2.2.2.2.2.2.2.2.2.2 k0_h10

def k0_off24 (v24_3_r0 : BitVec 32) : Fin 1 → Nat :=
  let c2_i32_50_r0 : BitVec 32 := 2#32
  let v45_r0 : BitVec 32 := Scalar.remui v24_3_r0 c2_i32_50_r0
  ![v45_r0.toNat]

def k0_off25 (v24_6_r0 : BitVec 32) : Fin 5 → Nat :=
  let c0_i32_65_r0 : BitVec 32 := 0#32
  let c1_i32_63_r0 : BitVec 32 := 1#32
  let true_31_r0 : BitVec 1 := 1#1
  let c1_i32_30_r0 : BitVec 32 := 1#32
  let v25_r0 : BitVec 32 := Scalar.subi v24_6_r0 c1_i32_30_r0
  let v26_r0 : BitVec 32 := Scalar.select true_31_r0 v25_r0 v24_6_r0
  let c_m1_i32_32_r0 : BitVec 32 := 4294967295#32
  let v27_r0 : BitVec 1 := Scalar.cmpi .eq v26_r0 c_m1_i32_32_r0
  let c63_i32_33_r0 : BitVec 32 := 63#32
  let v28_r0 : BitVec 32 := Scalar.select v27_r0 c63_i32_33_r0 v26_r0
  let c0_i32_34_r0 : BitVec 32 := 0#32
  let v29_r0 : BitVec 32 := Scalar.addi v28_r0 c0_i32_34_r0
  let c0_i32_51_r0 : BitVec 32 := 0#32
  let v47_r0 : BitVec 1 := Scalar.cmpi .sgt v29_r0 c0_i32_51_r0
  let v48_r0 : BitVec 32 := Scalar.extui v47_r0
  let c0_i32_52_r0 : BitVec 32 := 0#32
  let v49_r0 : BitVec 1 := Scalar.cmpi .slt v29_r0 c0_i32_52_r0
  let v50_r0 : BitVec 32 := Scalar.extui v49_r0
  let v51_r0 : BitVec 32 := Scalar.subi v48_r0 v50_r0
  let c16_i32_r0 : BitVec 32 := 16#32
  let c0_i32_53_r0 : BitVec 32 := 0#32
  let v52_r0 : BitVec 1 := Scalar.cmpi .sgt c16_i32_r0 c0_i32_53_r0
  let v53_r0 : BitVec 32 := Scalar.extui v52_r0
  let c0_i32_54_r0 : BitVec 32 := 0#32
  let v54_r0 : BitVec 1 := Scalar.cmpi .slt c16_i32_r0 c0_i32_54_r0
  let v55_r0 : BitVec 32 := Scalar.extui v54_r0
  let v56_r0 : BitVec 32 := Scalar.subi v53_r0 v55_r0
  let v57_r0 : BitVec 1 := Scalar.cmpi .ne v51_r0 v56_r0
  let v58_r0 : BitVec 32 := Scalar.remsi v29_r0 c16_i32_r0
  let c0_i32_55_r0 : BitVec 32 := 0#32
  let v59_r0 : BitVec 1 := Scalar.cmpi .ne v58_r0 c0_i32_55_r0
  let v60_r0 : BitVec 1 := Scalar.andi v57_r0 v59_r0
  let v46_r0 : BitVec 32 := Scalar.divsi v29_r0 c16_i32_r0
  let c1_i32_56_r0 : BitVec 32 := 1#32
  let v61_r0 : BitVec 32 := Scalar.subi v46_r0 c1_i32_56_r0
  let v62_r0 : BitVec 32 := Scalar.select v60_r0 v61_r0 v46_r0
  let v73_r0 : BitVec 32 := Scalar.muli c1_i32_63_r0 v62_r0
  let c0_i32_66_r0 : BitVec 32 := 0#32
  let c16_i32_64_r0 : BitVec 32 := 16#32
  let c16_i32_57_r0 : BitVec 32 := 16#32
  let c0_i32_58_r0 : BitVec 32 := 0#32
  let v63_r0 : BitVec 1 := Scalar.cmpi .eq c16_i32_57_r0 c0_i32_58_r0
  let c1_i32_59_r0 : BitVec 32 := 1#32
  let v64_r0 : BitVec 32 := Scalar.select v63_r0 c1_i32_59_r0 c16_i32_57_r0
  let v65_r0 : BitVec 32 := Scalar.remsi v29_r0 v64_r0
  let c0_i32_61_r0 : BitVec 32 := 0#32
  let v67_r0 : BitVec 1 := Scalar.cmpi .slt v65_r0 c0_i32_61_r0
  let c0_i32_62_r0 : BitVec 32 := 0#32
  let v68_r0 : BitVec 1 := Scalar.cmpi .slt v64_r0 c0_i32_62_r0
  let v69_r0 : BitVec 1 := Scalar.xori v67_r0 v68_r0
  let c0_i32_60_r0 : BitVec 32 := 0#32
  let v66_r0 : BitVec 1 := Scalar.cmpi .ne v65_r0 c0_i32_60_r0
  let v70_r0 : BitVec 1 := Scalar.andi v69_r0 v66_r0
  let v71_r0 : BitVec 32 := Scalar.addi v65_r0 v64_r0
  let v72_r0 : BitVec 32 := Scalar.select v70_r0 v71_r0 v65_r0
  let v74_r0 : BitVec 32 := Scalar.muli c16_i32_64_r0 v72_r0
  let c0_i32_67_r0 : BitVec 32 := 0#32
  ![0, v73_r0.toNat, 0, v74_r0.toNat, 0]

def k0_off26 (v24_3_r0 : BitVec 32) : Fin 6 → Nat :=
  let c2_i32_50_r0 : BitVec 32 := 2#32
  let v45_r0 : BitVec 32 := Scalar.remui v24_3_r0 c2_i32_50_r0
  let c0_i32_68_r0 : BitVec 32 := 0#32
  let c0_i32_69_r0 : BitVec 32 := 0#32
  let c0_i32_70_r0 : BitVec 32 := 0#32
  let c0_i32_71_r0 : BitVec 32 := 0#32
  let c0_i32_72_r0 : BitVec 32 := 0#32
  ![v45_r0.toNat, 0, 0, 0, 0, 0]

def k0_chk5 (v24_3_r0 : BitVec 32) : Prop :=
  (∀ a, (k0_off24 v24_3_r0) a + S1.size a ≤ S2.size a) ∧
  (∀ a, (k0_off26 v24_3_r0) a + S1x24x1x16x16x128.size a ≤ S2x24x1x16x16x128.size a)
theorem k0_off24_inb : ∀ (v24_3_r0 : BitVec 32) (k0_hw5 : k0_chk5 v24_3_r0), ∀ a, (k0_off24 v24_3_r0) a + S1.size a ≤ S2.size a := fun v24_3_r0 k0_hw5 => k0_hw5.1
theorem k0_off26_inb : ∀ (v24_3_r0 : BitVec 32) (k0_hw5 : k0_chk5 v24_3_r0), ∀ a, (k0_off26 v24_3_r0) a + S1x24x1x16x16x128.size a ≤ S2x24x1x16x16x128.size a := fun v24_3_r0 k0_hw5 => k0_hw5.2

def k0_off27 (v24_5_r0 : BitVec 32) : Fin 1 → Nat :=
  let c2_i32_73_r0 : BitVec 32 := 2#32
  let v80_r0 : BitVec 32 := Scalar.remui v24_5_r0 c2_i32_73_r0
  ![v80_r0.toNat]

def k0_off28 (v24_6_r0 : BitVec 32) : Fin 3 → Nat :=
  let c0_i32_74_r0 : BitVec 32 := 0#32
  let c256_i32_r0 : BitVec 32 := 256#32
  let true_31_r0 : BitVec 1 := 1#1
  let c1_i32_30_r0 : BitVec 32 := 1#32
  let v25_r0 : BitVec 32 := Scalar.subi v24_6_r0 c1_i32_30_r0
  let v26_r0 : BitVec 32 := Scalar.select true_31_r0 v25_r0 v24_6_r0
  let c_m1_i32_32_r0 : BitVec 32 := 4294967295#32
  let v27_r0 : BitVec 1 := Scalar.cmpi .eq v26_r0 c_m1_i32_32_r0
  let c63_i32_33_r0 : BitVec 32 := 63#32
  let v28_r0 : BitVec 32 := Scalar.select v27_r0 c63_i32_33_r0 v26_r0
  let c0_i32_34_r0 : BitVec 32 := 0#32
  let v29_r0 : BitVec 32 := Scalar.addi v28_r0 c0_i32_34_r0
  let v81_r0 : BitVec 32 := Scalar.muli c256_i32_r0 v29_r0
  let c0_i32_75_r0 : BitVec 32 := 0#32
  ![0, v81_r0.toNat, 0]

def k0_chk6 (v24_6_r0 : BitVec 32) : Prop :=
  (∀ a, (k0_off25 v24_6_r0) a + S24x1x16x16x128.size a ≤ S24x4x16x256x128.size a) ∧
  (∀ a, (k0_off28 v24_6_r0) a + S16x256x128.size a ≤ S16x16384x128.size a)
theorem k0_off25_inb : ∀ (v24_6_r0 : BitVec 32) (k0_hw6 : k0_chk6 v24_6_r0), ∀ a, (k0_off25 v24_6_r0) a + S24x1x16x16x128.size a ≤ S24x4x16x256x128.size a := fun v24_6_r0 k0_hw6 => k0_hw6.1
theorem k0_off28_inb : ∀ (v24_6_r0 : BitVec 32) (k0_hw6 : k0_chk6 v24_6_r0), ∀ a, (k0_off28 v24_6_r0) a + S16x256x128.size a ≤ S16x16384x128.size a := fun v24_6_r0 k0_hw6 => k0_hw6.2

def k0_off29 (v24_5_r0 : BitVec 32) : Fin 4 → Nat :=
  let c2_i32_73_r0 : BitVec 32 := 2#32
  let v80_r0 : BitVec 32 := Scalar.remui v24_5_r0 c2_i32_73_r0
  let c0_i32_76_r0 : BitVec 32 := 0#32
  let c0_i32_77_r0 : BitVec 32 := 0#32
  let c0_i32_78_r0 : BitVec 32 := 0#32
  ![v80_r0.toNat, 0, 0, 0]

def k0_chk7 (v24_5_r0 : BitVec 32) : Prop :=
  (∀ a, (k0_off27 v24_5_r0) a + S1.size a ≤ S2.size a) ∧
  (∀ a, (k0_off29 v24_5_r0) a + S1x16x256x128.size a ≤ S2x16x256x128.size a)
theorem k0_off27_inb : ∀ (v24_5_r0 : BitVec 32) (k0_hw7 : k0_chk7 v24_5_r0), ∀ a, (k0_off27 v24_5_r0) a + S1.size a ≤ S2.size a := fun v24_5_r0 k0_hw7 => k0_hw7.1
theorem k0_off29_inb : ∀ (v24_5_r0 : BitVec 32) (k0_hw7 : k0_chk7 v24_5_r0), ∀ a, (k0_off29 v24_5_r0) a + S1x16x256x128.size a ≤ S2x16x256x128.size a := fun v24_5_r0 k0_hw7 => k0_hw7.2
-- ==== Kernel2.lean ====
abbrev S4x4096x2048 : Shape := ⟨3, ![4, 4096, 2048]⟩
abbrev S8x4x4096x128 : Shape := ⟨4, ![8, 4, 4096, 128]⟩
abbrev S1x1024 : Shape := ⟨2, ![1, 1024]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S16384x2048 : Shape := ⟨2, ![16384, 2048]⟩
abbrev S_ : Shape := ⟨0, ![]⟩
abbrev S2048x128 : Shape := ⟨2, ![2048, 128]⟩
abbrev S2048x4 : Shape := ⟨2, ![2048, 4]⟩
abbrev S2048x32 : Shape := ⟨2, ![2048, 32]⟩
abbrev S2048x36 : Shape := ⟨2, ![2048, 36]⟩
abbrev S1 : Shape := ⟨1, ![1]⟩
abbrev S1x128 : Shape := ⟨2, ![1, 128]⟩
abbrev S4 : Shape := ⟨1, ![4]⟩
abbrev S32 : Shape := ⟨1, ![32]⟩
abbrev S36 : Shape := ⟨1, ![36]⟩
abbrev S2 : Shape := ⟨1, ![2]⟩
abbrev S1024 : Shape := ⟨1, ![1024]⟩
abbrev S2048x2048 : Shape := ⟨2, ![2048, 2048]⟩
abbrev S2048 : Shape := ⟨1, ![2048]⟩
abbrev S8x16384x128 : Shape := ⟨3, ![8, 16384, 128]⟩
abbrev S16384x16x128 : Shape := ⟨3, ![16384, 16, 128]⟩
abbrev S8x16384 : Shape := ⟨2, ![8, 16384]⟩
abbrev S16384x128 : Shape := ⟨2, ![16384, 128]⟩
abbrev S8x128 : Shape := ⟨2, ![8, 128]⟩
abbrev S8x256x128 : Shape := ⟨3, ![8, 256, 128]⟩
abbrev S256x2048 : Shape := ⟨2, ![256, 2048]⟩
abbrev S256x16x128 : Shape := ⟨3, ![256, 16, 128]⟩
abbrev S8x256 : Shape := ⟨2, ![8, 256]⟩
abbrev S256x128 : Shape := ⟨2, ![256, 128]⟩
abbrev S1x256x128 : Shape := ⟨3, ![1, 256, 128]⟩
abbrev S256x1024 : Shape := ⟨2, ![256, 1024]⟩
abbrev S256 : Shape := ⟨1, ![256]⟩
abbrev S256x1 : Shape := ⟨2, ![256, 1]⟩
abbrev S64x2048 : Shape := ⟨2, ![64, 2048]⟩
abbrev S64 : Shape := ⟨1, ![64]⟩
abbrev S64x1 : Shape := ⟨2, ![64, 1]⟩
abbrev S64x2x8x128 : Shape := ⟨4, ![64, 2, 8, 128]⟩
abbrev S64x8x2x128 : Shape := ⟨4, ![64, 8, 2, 128]⟩
abbrev S64x16x128 : Shape := ⟨3, ![64, 16, 128]⟩
abbrev S1024x256 : Shape := ⟨2, ![1024, 256]⟩
abbrev S256x256 : Shape := ⟨2, ![256, 256]⟩
abbrev S128x256 : Shape := ⟨2, ![128, 256]⟩
abbrev S128 : Shape := ⟨1, ![128]⟩

abbrev nBuf : Space → Nat
  | .hbm => 46
  | .vmem => 24
  | .smem => 0
  | _ => 0

abbrev bufTy : (tb : Table) → Fin (tcTables nBuf tb) → BufTy
  | .hbm, ⟨0, _⟩ => ⟨S4x4096x2048, .f32⟩
  | .hbm, ⟨1, _⟩ => ⟨S8x4x4096x128, .f32⟩
  | .hbm, ⟨2, _⟩ => ⟨S8x4x4096x128, .f32⟩
  | .hbm, ⟨3, _⟩ => ⟨S1x1024, .f32⟩
  | .hbm, ⟨4, _⟩ => ⟨S1x2048x2048, .f32⟩
  | .hbm, ⟨5, _⟩ => ⟨S1x2048, .f32⟩
  | .hbm, ⟨6, _⟩ => ⟨S1x2048, .f32⟩
  | .hbm, ⟨7, _⟩ => ⟨S1x2048x4, .f32⟩
  | .hbm, ⟨8, _⟩ => ⟨S1x4, .f32⟩
  | .hbm, ⟨9, _⟩ => ⟨S1x2048x32, .f32⟩
  | .hbm, ⟨10, _⟩ => ⟨S1x32, .f32⟩
  | .hbm, ⟨11, _⟩ => ⟨S16384x2048, .f32⟩
  | .hbm, ⟨12, _⟩ => ⟨S_, .f32⟩
  | .hbm, ⟨13, _⟩ => ⟨S2048x128, .f32⟩
  | .hbm, ⟨14, _⟩ => ⟨S2048x4, .f32⟩
  | .hbm, ⟨15, _⟩ => ⟨S2048x32, .f32⟩
  | .hbm, ⟨16, _⟩ => ⟨S2048x36, .f32⟩
  | .hbm, ⟨17, _⟩ => ⟨S_, .i32⟩
  | .hbm, ⟨18, _⟩ => ⟨S1, .i32⟩
  | .hbm, ⟨19, _⟩ => ⟨S2048x128, .f32⟩
  | .hbm, ⟨20, _⟩ => ⟨S_, .f32⟩
  | .hbm, ⟨21, _⟩ => ⟨S1x128, .f32⟩
  | .hbm, ⟨22, _⟩ => ⟨S4, .f32⟩
  | .hbm, ⟨23, _⟩ => ⟨S32, .f32⟩
  | .hbm, ⟨24, _⟩ => ⟨S36, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S1x128, .f32⟩
  | .hbm, ⟨31, _⟩ => ⟨S1024, .f32⟩
  | .hbm, ⟨32, _⟩ => ⟨S2048x2048, .f32⟩
  | .hbm, ⟨33, _⟩ => ⟨S2048x2048, .bf16⟩
  | .hbm, ⟨34, _⟩ => ⟨S2048, .f32⟩
  | .hbm, ⟨35, _⟩ => ⟨S2048, .f32⟩
  | .hbm, ⟨36, _⟩ => ⟨S8x16384x128, .f32⟩
  | .hbm, ⟨37, _⟩ => ⟨S8x16384x128, .f32⟩
  | .hbm, ⟨38, _⟩ => ⟨S1x1024, .f32⟩
  | .hbm, ⟨39, _⟩ => ⟨S1x2048, .f32⟩
  | .hbm, ⟨40, _⟩ => ⟨S1x2048, .f32⟩
  | .hbm, ⟨41, _⟩ => ⟨S16384x2048, .f32⟩
  | .hbm, ⟨42, _⟩ => ⟨S16384x16x128, .bf16⟩
  | .hbm, ⟨43, _⟩ => ⟨S8x16384, .i32⟩
  | .hbm, ⟨44, _⟩ => ⟨S16384x128, .f32⟩
  | .hbm, ⟨45, _⟩ => ⟨S8x128, .i32⟩
  | .local _ .vmem, ⟨0, _⟩ => ⟨S8x256x128, .f32⟩
  | .local _ .vmem, ⟨1, _⟩ => ⟨S8x256x128, .f32⟩
  | .local _ .vmem, ⟨2, _⟩ => ⟨S8x256x128, .f32⟩
  | .local _ .vmem, ⟨3, _⟩ => ⟨S8x256x128, .f32⟩
  | .local _ .vmem, ⟨4, _⟩ => ⟨S256x2048, .f32⟩
  | .local _ .vmem, ⟨5, _⟩ => ⟨S256x2048, .f32⟩
  | .local _ .vmem, ⟨6, _⟩ => ⟨S1x1024, .f32⟩
  | .local _ .vmem, ⟨7, _⟩ => ⟨S2048x2048, .bf16⟩
  | .local _ .vmem, ⟨8, _⟩ => ⟨S1x2048, .f32⟩
  | .local _ .vmem, ⟨9, _⟩ => ⟨S1x2048, .f32⟩
  | .local _ .vmem, ⟨10, _⟩ => ⟨S2048x128, .f32⟩
  | .local _ .vmem, ⟨11, _⟩ => ⟨S1x128, .f32⟩
  | .local _ .vmem, ⟨12, _⟩ => ⟨S256x2048, .f32⟩
  | .local _ .vmem, ⟨13, _⟩ => ⟨S256x2048, .f32⟩
  | .local _ .vmem, ⟨14, _⟩ => ⟨S256x16x128, .bf16⟩
  | .local _ .vmem, ⟨15, _⟩ => ⟨S256x16x128, .bf16⟩
  | .local _ .vmem, ⟨16, _⟩ => ⟨S8x256, .i32⟩
  | .local _ .vmem, ⟨17, _⟩ => ⟨S8x256, .i32⟩
  | .local _ .vmem, ⟨18, _⟩ => ⟨S256x128, .f32⟩
  | .local _ .vmem, ⟨19, _⟩ => ⟨S256x128, .f32⟩
  | .local _ .vmem, ⟨20, _⟩ => ⟨S8x128, .i32⟩
  | .local _ .vmem, ⟨21, _⟩ => ⟨S8x128, .f32⟩
  | .local _ .vmem, ⟨22, _⟩ => ⟨S256x2048, .f32⟩
  | .local _ .vmem, ⟨23, _⟩ => ⟨S256x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev main_v25_2 : Ref sig .tc := ⟨.hbm, 43, rfl⟩
abbrev main_v25_3 : Ref sig .tc := ⟨.hbm, 44, rfl⟩
abbrev main_v25_4 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x16x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x256 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128 .i32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S4x4096x2048 : Shape := ⟨3, ![4, 4096, 2048]⟩
abbrev S1x2048x5120 : Shape := ⟨3, ![1, 2048, 5120]⟩
abbrev S2048x5120 : Shape := ⟨2, ![2048, 5120]⟩
abbrev S4x4096x5120 : Shape := ⟨3, ![4, 4096, 5120]⟩
abbrev S4x4096x1024 : Shape := ⟨3, ![4, 4096, 1024]⟩
abbrev S_ : Shape := ⟨0, ![]⟩
abbrev S4x256x16x8x128 : Shape := ⟨5, ![4, 256, 16, 8, 128]⟩
abbrev S8x4x16x256x128 : Shape := ⟨5, ![8, 4, 16, 256, 128]⟩
abbrev S24x4x16x256x128 : Shape := ⟨5, ![24, 4, 16, 256, 128]⟩
abbrev S16384x8x128 : Shape := ⟨3, ![16384, 8, 128]⟩
abbrev S8x16384x128 : Shape := ⟨3, ![8, 16384, 128]⟩
abbrev S16x16384x128 : Shape := ⟨3, ![16, 16384, 128]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048x5120, .f32⟩
  | .hbm, ⟨2, _⟩ => ⟨S2048x5120, .f32⟩
  | .hbm, ⟨3, _⟩ => ⟨S4x4096x5120, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S4x4096x1024, .f32⟩
  | .hbm, ⟨8, _⟩ => ⟨S4x4096x1024, .f32⟩
  | .hbm, ⟨9, _⟩ => ⟨S_, .f32⟩
  | .hbm, ⟨10, _⟩ => ⟨S4x4096x1024, .f32⟩
  | .hbm, ⟨11, _⟩ => ⟨S4x4096x1024, .f32⟩
  | .hbm, ⟨12, _⟩ => ⟨S_, .f32⟩
  | .hbm, ⟨13, _⟩ => ⟨S4x4096x1024, .f32⟩
  | .hbm, ⟨14, _⟩ => ⟨S4x4096x1024, .f32⟩
  | .hbm, ⟨15, _⟩ => ⟨S4x256x16x8x128, .f32⟩
  | .hbm, ⟨16, _⟩ => ⟨S8x4x16x256x128, .f32⟩
  | .hbm, ⟨17, _⟩ => ⟨S4x256x16x8x128, .f32⟩
  | .hbm, ⟨18, _⟩ => ⟨S8x4x16x256x128, .f32⟩
  | .hbm, ⟨19, _⟩ => ⟨S4x256x16x8x128, .f32⟩
  | .hbm, ⟨20, _⟩ => ⟨S8x4x16x256x128, .f32⟩
  | .hbm, ⟨21, _⟩ => ⟨S24x4x16x256x128, .f32⟩
  | .hbm, ⟨22, _⟩ => ⟨S16384x8x128, .f32⟩
  | .hbm, ⟨23, _⟩ => ⟨S8x16384x128, .f32⟩
  | .hbm, ⟨24, _⟩ => ⟨S16384x8x128, .f32⟩
  | .hbm, ⟨25, _⟩ => ⟨S8x16384x128, .f32⟩
  | .hbm, ⟨26, _⟩ => ⟨S16x16384x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]
-- ==== Reference2Ideal.lean ====
abbrev S4x4096x2048 : Shape := ⟨3, ![4, 4096, 2048]⟩
abbrev S8x4x4096x128 : Shape := ⟨4, ![8, 4, 4096, 128]⟩
abbrev S1x1024 : Shape := ⟨2, ![1, 1024]⟩
abbrev S1x2048x2048 : Shape := ⟨3, ![1, 2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S4x4096x8x128 : Shape := ⟨4, ![4, 4096, 8, 128]⟩
abbrev S4x4096x1024 : Shape := ⟨3, ![4, 4096, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S2048x2048 : Shape := ⟨2, ![2048, 2048]⟩
abbrev S2048 : Shape := ⟨1, ![2048]⟩
abbrev S1x1x2048 : Shape := ⟨3, ![1, 1, 2048]⟩
abbrev S16384x2048 : Shape := ⟨2, ![16384, 2048]⟩
abbrev S16384x2x8x128 : Shape := ⟨4, ![16384, 2, 8, 128]⟩
abbrev S16384x8x2x128 : Shape := ⟨4, ![16384, 8, 2, 128]⟩
abbrev S16384x16x128 : Shape := ⟨3, ![16384, 16, 128]⟩

abbrev nBuf : Space → Nat
  | .hbm => 75
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S8x4x4096x128, .f32⟩
  | .hbm, ⟨2, _⟩ => ⟨S8x4x4096x128, .f32⟩
  | .hbm, ⟨3, _⟩ => ⟨S1x1024, .f32⟩
  | .hbm, ⟨4, _⟩ => ⟨S1x2048x2048, .f32⟩
  | .hbm, ⟨5, _⟩ => ⟨S1x2048, .f32⟩
  | .hbm, ⟨6, _⟩ => ⟨S1x2048, .f32⟩
  | .hbm, ⟨7, _⟩ => ⟨S1x2048x4, .f32⟩
  | .hbm, ⟨8, _⟩ => ⟨S1x4, .f32⟩
  | .hbm, ⟨9, _⟩ => ⟨S1x2048x32, .f32⟩
  | .hbm, ⟨10, _⟩ => ⟨S1x32, .f32⟩
  | .hbm, ⟨11, _⟩ => ⟨S4x4096x8x128, .f32⟩
  | .hbm, ⟨12, _⟩ => ⟨S4x4096x1024, .f32⟩
  | .hbm, ⟨13, _⟩ => ⟨S4x4096x8x128, .f32⟩
  | .hbm, ⟨14, _⟩ => ⟨S4x4096x1024, .f32⟩
  | .hbm, ⟨15, _⟩ => ⟨S1024, .f32⟩
  | .hbm, ⟨16, _⟩ => ⟨S4x4096x1024, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x1024, .f32⟩
  | .hbm, ⟨28, _⟩ => ⟨S4x4096x1024, .f32⟩
  | .hbm, ⟨29, _⟩ => ⟨S1x1x1024, .f32⟩
  | .hbm, ⟨30, _⟩ => ⟨S4x4096x1024, .f32⟩
  | .hbm, ⟨31, _⟩ => ⟨S4x4096x1024, .f32⟩
  | .hbm, ⟨32, _⟩ => ⟨S4x4096x2048, .f32⟩
  | .hbm, ⟨33, _⟩ => ⟨S2048x2048, .f32⟩
  | .hbm, ⟨34, _⟩ => ⟨S4x4096x2048, .f32⟩
  | .hbm, ⟨35, _⟩ => ⟨S_, .f32⟩
  | .hbm, ⟨36, _⟩ => ⟨S4x4096x2048, .f32⟩
  | .hbm, ⟨37, _⟩ => ⟨S4x4096x2048, .f32⟩
  | .hbm, ⟨38, _⟩ => ⟨S4x4096x2048, .f32⟩
  | .hbm, ⟨39, _⟩ => ⟨S2048, .f32⟩
  | .hbm, ⟨40, _⟩ => ⟨S2048, .f32⟩
  | .hbm, ⟨41, _⟩ => ⟨S_, .f32⟩
  | .hbm, ⟨42, _⟩ => ⟨S4x4096, .f32⟩
  | .hbm, ⟨43, _⟩ => ⟨S4x4096x1, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S4x4096x2048, .f32⟩
  | .hbm, ⟨48, _⟩ => ⟨S4x4096x2048, .f32⟩
  | .hbm, ⟨49, _⟩ => ⟨S4x4096x2048, .f32⟩
  | .hbm, ⟨50, _⟩ => ⟨S_, .f32⟩
  | .hbm, ⟨51, _⟩ => ⟨S4x4096, .f32⟩
  | .hbm, ⟨52, _⟩ => ⟨S4x4096x1, .f32⟩
  | .hbm, ⟨53, _⟩ => ⟨S_, .f32⟩
  | .hbm, ⟨54, _⟩ => ⟨S4x4096x1, .f32⟩
  | .hbm, ⟨55, _⟩ => ⟨S4x4096x1, .f32⟩
  | .hbm, ⟨56, _⟩ => ⟨S4x4096x2048, .f32⟩
  | .hbm, ⟨57, _⟩ => ⟨S4x4096x2048, .f32⟩
  | .hbm, ⟨58, _⟩ => ⟨S_, .f32⟩
  | .hbm, ⟨59, _⟩ => ⟨S4x4096x1, .f32⟩
  | .hbm, ⟨60, _⟩ => ⟨S4x4096x1, .f32⟩
  | .hbm, ⟨61, _⟩ => ⟨S4x4096x1, .f32⟩
  | .hbm, ⟨62, _⟩ => ⟨S4x4096x2048, .f32⟩
  | .hbm, ⟨63, _⟩ => ⟨S4x4096x2048, .f32⟩
  | .hbm, ⟨64, _⟩ => ⟨S1x1x2048, .f32⟩
  | .hbm, ⟨65, _⟩ => ⟨S4x4096x2048, .f32⟩
  | .hbm, ⟨66, _⟩ => ⟨S4x4096x2048, .f32⟩
  | .hbm, ⟨67, _⟩ => ⟨S1x1x2048, .f32⟩
  | .hbm, ⟨68, _⟩ => ⟨S4x4096x2048, .f32⟩
  | .hbm, ⟨69, _⟩ => ⟨S4x4096x2048, .f32⟩
  | .hbm, ⟨70, _⟩ => ⟨S16384x2048, .f32⟩
  | .hbm, ⟨71, _⟩ => ⟨S16384x2048, .bf16⟩
  | .hbm, ⟨72, _⟩ => ⟨S16384x2x8x128, .bf16⟩
  | .hbm, ⟨73, _⟩ => ⟨S16384x8x2x128, .bf16⟩
  | .hbm, ⟨74, _⟩ => ⟨S16384x16x128, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Proof.Names.lean ====
/-
  The names the proof of the input projection uses: the blocks of the three arrays in HBM, the two slots of each of
  the three VMEM buffers, their semaphores, and the words the pipeline's loop carries. The slices the body
  takes at run-time offsets are equal to these (`@[sl_canon]`).
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Ring.WriteBehind
public import Idealize.ShloMosaic.Lib.Affine
public import Idealize.ShloMosaic.Lib.Tactic

@[expose] public section

noncomputable section

namespace Cert.Proof.InProj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The arrays and the buffers -/

/-- The activations, the weights and the two results in HBM. -/
abbrev xM : Memref sig .tc .hbm S16384x2048 .f32 := Memref.whole main_v0
abbrev wM : Memref sig .tc .hbm S2048x5120 .bf16 := Memref.whole main_v2
abbrev qM : Memref sig .tc .hbm S24x4x16x256x128 .f32 := Memref.whole main_v3_0
abbrev gM : Memref sig .tc .hbm S16x16384x128 .f32 := Memref.whole main_v3_1
/-- The weights in VMEM and the three double buffers. -/
abbrev wB : Memref sig .tc .vmem S2048x5120 .bf16 := Memref.whole cc0_scratch0
abbrev xB : Memref sig .tc .vmem S2x256x2048 .f32 := Memref.whole cc0_scoped0
abbrev qB : Memref sig .tc .vmem S2x24x1x16x16x128 .f32 := Memref.whole cc0_scoped2
abbrev gB : Memref sig .tc .vmem S2x16x256x128 .f32 := Memref.whole cc0_scoped4

/-! ## Blocks, slots, semaphores -/

abbrev xOff (b : Fin 64) : Fin 2 → Nat := ![256 * b.val, 0]
abbrev qOff (b : Fin 64) : Fin 5 → Nat := ![0, b.val / 16, 0, 16 * (b.val % 16), 0]
abbrev gOff (b : Fin 64) : Fin 3 → Nat := ![0, 256 * b.val, 0]
abbrev xsOff (s : Fin 2) : Fin 3 → Nat := ![s.val, 0, 0]
abbrev qsOff (s : Fin 2) : Fin 6 → Nat := ![s.val, 0, 0, 0, 0, 0]
abbrev gsOff (s : Fin 2) : Fin 4 → Nat := ![s.val, 0, 0, 0]
abbrev cOff (s : Fin 2) : Fin 1 → Nat := ![s.val]

theorem xOff_inb : ∀ (b : Fin 64) a, xOff b a + S256x2048.size a ≤ S16384x2048.size a := by decide +kernel
theorem qOff_inb : ∀ (b : Fin 64) a, qOff b a + S24x1x16x16x128.size a ≤ S24x4x16x256x128.size a := by decide +kernel
theorem gOff_inb : ∀ (b : Fin 64) a, gOff b a + S16x256x128.size a ≤ S16x16384x128.size a := by decide +kernel
theorem xsOff_inb : ∀ (s : Fin 2) a, xsOff s a + S1x256x2048.size a ≤ S2x256x2048.size a := by decide +kernel
theorem qsOff_inb : ∀ (s : Fin 2) a, qsOff s a + S1x24x1x16x16x128.size a ≤ S2x24x1x16x16x128.size a := by decide +kernel
theorem gsOff_inb : ∀ (s : Fin 2) a, gsOff s a + S1x16x256x128.size a ≤ S2x16x256x128.size a := by decide +kernel
theorem cOff_inb : ∀ (s : Fin 2) a, cOff s a + S1.size a ≤ S2.size a := by decide +kernel

/-- Block `b` of the activations: 256 rows. -/
def xblk (b : Fin 64) : Memref sig .tc .hbm S256x2048 .f32 :=
  xM.slice (Rect.unit (s := S16384x2048) (xOff b) S256x2048.size (xOff_inb b)) (fun _ => rfl)
/-- Block `b` of the first result: sixteen rows of each class of one batch entry. -/
def qblk (b : Fin 64) : Memref sig .tc .hbm S24x1x16x16x128 .f32 :=
  qM.slice (Rect.unit (s := S24x4x16x256x128) (qOff b) S24x1x16x16x128.size (qOff_inb b)) (fun _ => rfl)
/-- Block `b` of the second result: 256 rows of each plane. -/
def gblk (b : Fin 64) : Memref sig .tc .hbm S16x256x128 .f32 :=
  gM.slice (Rect.unit (s := S16x16384x128) (gOff b) S16x256x128.size (gOff_inb b)) (fun _ => rfl)
/-- Slot `s` of each double buffer. -/
def xslot (s : Fin 2) : Memref sig .tc .vmem S256x2048 .f32 :=
  (xB.slice (Rect.unit (s := S2x256x2048) (xsOff s) S1x256x2048.size (xsOff_inb s)) (fun _ => rfl)).squeeze S256x2048 squeezes_S1x256x2048_S256x2048
def qslot (s : Fin 2) : Memref sig .tc .vmem S24x1x16x16x128 .f32 :=
  (qB.slice (Rect.unit (s := S2x24x1x16x16x128) (qsOff s) S1x24x1x16x16x128.size (qsOff_inb s)) (fun _ => rfl)).squeeze S24x1x16x16x128 squeezes_S1x24x1x16x16x128_S24x1x16x16x128
def gslot (s : Fin 2) : Memref sig .tc .vmem S16x256x128 .f32 :=
  (gB.slice (Rect.unit (s := S2x16x256x128) (gsOff s) S1x16x256x128.size (gsOff_inb s)) (fun _ => rfl)).squeeze S16x256x128 squeezes_S1x16x256x128_S16x256x128
/-- The semaphore of slot `s` of each double buffer. -/
def xc (s : Fin 2) : DmaSems sig S_ := (cc0_scoped1.slice (Rect.unit (s := S2) (cOff s) S1.size (cOff_inb s))).squeeze S_ squeezes_S1_S_
def qc (s : Fin 2) : DmaSems sig S_ := (cc0_scoped3.slice (Rect.unit (s := S2) (cOff s) S1.size (cOff_inb s))).squeeze S_ squeezes_S1_S_
def gc (s : Fin 2) : DmaSems sig S_ := (cc0_scoped5.slice (Rect.unit (s := S2) (cOff s) S1.size (cOff_inb s))).squeeze S_ squeezes_S1_S_

theorem xc_congr {off : Fin 1 → Nat} {s : Fin 2} (e : off = cOff s) (hh) :
    (cc0_scoped1.slice (Rect.unit (s := S2) off S1.size hh)).squeeze S_ squeezes_S1_S_ = xc s :=
  congrArg (fun A : DmaSems sig S1 => A.squeeze S_ squeezes_S1_S_) (SemArray.slice_unit_congr _ e _ _)
theorem qc_congr {off : Fin 1 → Nat} {s : Fin 2} (e : off = cOff s) (hh) :
    (cc0_scoped3.slice (Rect.unit (s := S2) off S1.size hh)).squeeze S_ squeezes_S1_S_ = qc s :=
  congrArg (fun A : DmaSems sig S1 => A.squeeze S_ squeezes_S1_S_) (SemArray.slice_unit_congr _ e _ _)
theorem gc_congr {off : Fin 1 → Nat} {s : Fin 2} (e : off = cOff s) (hh) :
    (cc0_scoped5.slice (Rect.unit (s := S2) off S1.size hh)).squeeze S_ squeezes_S1_S_ = gc s :=
  congrArg (fun A : DmaSems sig S1 => A.squeeze S_ squeezes_S1_S_) (SemArray.slice_unit_congr _ e _ _)
theorem xslot_congr {off : Fin 3 → Nat} {s : Fin 2} (e : off = xsOff s) (hh hs) :
    (xB.slice (Rect.unit (s := S2x256x2048) off S1x256x2048.size hh) hs).squeeze S256x2048 squeezes_S1x256x2048_S256x2048 = xslot s :=
  congrArg (fun M : Memref sig .tc .vmem S1x256x2048 .f32 => M.squeeze S256x2048 squeezes_S1x256x2048_S256x2048) (Memref.slice_unit_congr _ e _ _ _ _)
theorem qslot_congr {off : Fin 6 → Nat} {s : Fin 2} (e : off = qsOff s) (hh hs) :
    (qB.slice (Rect.unit (s := S2x24x1x16x16x128) off S1x24x1x16x16x128.size hh) hs).squeeze S24x1x16x16x128 squeezes_S1x24x1x16x16x128_S24x1x16x16x128 = qslot s :=
  congrArg (fun M : Memref sig .tc .vmem S1x24x1x16x16x128 .f32 => M.squeeze S24x1x16x16x128 squeezes_S1x24x1x16x16x128_S24x1x16x16x128) (Memref.slice_unit_congr _ e _ _ _ _)
theorem gslot_congr {off : Fin 4 → Nat} {s : Fin 2} (e : off = gsOff s) (hh hs) :
    (gB.slice (Rect.unit (s := S2x16x256x128) off S1x16x256x128.size hh) hs).squeeze S16x256x128 squeezes_S1x16x256x128_S16x256x128 = gslot s :=
  congrArg (fun M : Memref sig .tc .vmem S1x16x256x128 .f32 => M.squeeze S16x256x128 squeezes_S1x16x256x128_S16x256x128) (Memref.slice_unit_congr _ e _ _ _ _)
theorem xblk_congr {off : Fin 2 → Nat} {b : Fin 64} (e : off = xOff b) (hh hs) :
    xM.slice (Rect.unit (s := S16384x2048) off S256x2048.size hh) hs = xblk b := Memref.slice_unit_congr _ e _ _ hs (fun _ => rfl)
theorem qblk_congr {off : Fin 5 → Nat} {b : Fin 64} (e : off = qOff b) (hh hs) :
    qM.slice (Rect.unit (s := S24x4x16x256x128) off S24x1x16x16x128.size hh) hs = qblk b := Memref.slice_unit_congr _ e _ _ hs (fun _ => rfl)
theorem gblk_congr {off : Fin 3 → Nat} {b : Fin 64} (e : off = gOff b) (hh hs) :
    gM.slice (Rect.unit (s := S16x16384x128) off S16x256x128.size hh) hs = gblk b := Memref.slice_unit_congr _ e _ _ hs (fun _ => rfl)

/-! ## The words the loop carries -/

/-- The number `j` as a word. -/
def wd (j : ℕ) : BitVec 32 := BitVec.ofNat 32 j

/-- The seven words before trip `k`: the next block to fetch, the block read, the block written and the block whose
    write is waited for (of each result), and the grid index. -/
abbrev words (k : ℕ) : BitVec 32 × BitVec 32 × BitVec 32 × BitVec 32 × BitVec 32 × BitVec 32 × BitVec 32 :=
  (wd (min (k + 1) 64), wd k, wd k, wd (k - 1), wd k, wd (k - 1), wd (k % 64))

abbrev slk (j : ℕ) : Fin 2 := Ring.sl 2 j
abbrev bkk (j : ℕ) : Fin 64 := Ring.bk 64 j

theorem slot_word (j : ℕ) : (Scalar.remui (wd j) 2#32).toNat = (slk j).val := by
  simp only [wd, Scalar.remui, Ring.sl, Fin.ofNat, slk]
  simp [IntOp.remui, BitVec.toNat_umod]

theorem trips_eq : k0_t1_loop.trips = 64 := by decide +kernel
theorem trip_lt (k : Fin k0_t1_loop.trips) : k.val < 64 := Nat.lt_of_lt_of_eq k.isLt trips_eq

section Offsets
variable (j : ℕ)
theorem off3_eq : k0_off3 (wd j) = cOff (slk j) := by unfold k0_off3 cOff; dsimp only; rw [slot_word]
theorem off4_eq : k0_off4 (wd j) = xsOff (slk j) := by unfold k0_off4 xsOff; dsimp only; rw [slot_word]
theorem off6_eq : k0_off6 (wd j) = cOff (slk j) := by unfold k0_off6 cOff; dsimp only; rw [slot_word]
theorem off7_eq : k0_off7 (wd j) = xsOff (slk j) := by unfold k0_off7 xsOff; dsimp only; rw [slot_word]
theorem off9_eq : k0_off9 (wd j) = xsOff (slk j) := by unfold k0_off9 xsOff; dsimp only [Scalar.indexCast]; rw [← slot_word]
theorem off10_eq : k0_off10 (wd j) = qsOff (slk j) := by unfold k0_off10 qsOff; dsimp only; rw [slot_word]
theorem off11_eq : k0_off11 (wd j) = gsOff (slk j) := by unfold k0_off11 gsOff; dsimp only; rw [slot_word]
theorem off12_eq : k0_off12 (wd j) = cOff (slk j) := by unfold k0_off12 cOff; dsimp only; rw [slot_word]
theorem off14_eq : k0_off14 (wd j) = qsOff (slk j) := by unfold k0_off14 qsOff; dsimp only; rw [slot_word]
theorem off15_eq : k0_off15 (wd j) = cOff (slk j) := by unfold k0_off15 cOff; dsimp only; rw [slot_word]
theorem off17_eq : k0_off17 (wd j) = gsOff (slk j) := by unfold k0_off17 gsOff; dsimp only; rw [slot_word]
theorem off18_eq : k0_off18 (wd j) = cOff (slk j) := by unfold k0_off18 cOff; dsimp only; rw [slot_word]
theorem off20_eq : k0_off20 (wd j) = qsOff (slk j) := by unfold k0_off20 qsOff; dsimp only; rw [slot_word]
theorem off21_eq : k0_off21 (wd j) = cOff (slk j) := by unfold k0_off21 cOff; dsimp only; rw [slot_word]
theorem off23_eq : k0_off23 (wd j) = gsOff (slk j) := by unfold k0_off23 gsOff; dsimp only; rw [slot_word]
theorem off24_eq : k0_off24 (wd j) = cOff (slk j) := by unfold k0_off24 cOff; dsimp only; rw [slot_word]
theorem off26_eq : k0_off26 (wd j) = qsOff (slk j) := by unfold k0_off26 qsOff; dsimp only; rw [slot_word]
theorem off27_eq : k0_off27 (wd j) = cOff (slk j) := by unfold k0_off27 cOff; dsimp only; rw [slot_word]
theorem off29_eq : k0_off29 (wd j) = gsOff (slk j) := by unfold k0_off29 gsOff; dsimp only; rw [slot_word]
end Offsets

/-! The block offsets of trip `k`: decided at each of the 64 trips. -/
theorem off5_all : ∀ k : Fin 63, k0_off5 (wd k.val) = xOff (bkk (k.val + 1)) := by decide +kernel
theorem off8_all : ∀ k : Fin 64, k0_off8 (wd k.val) = xOff (bkk k.val) := by decide +kernel
theorem off13_all : ∀ k : Fin 64, k0_off13 (wd k.val) = qOff (bkk k.val) := by decide +kernel
theorem off16_all : ∀ k : Fin 64, k0_off16 (wd k.val) = gOff (bkk k.val) := by decide +kernel
theorem off19_all : ∀ k : Fin 64, 0 < k.val → k0_off19 (wd k.val) = qOff (bkk (k.val - 1)) := by decide +kernel
theorem off22_all : ∀ k : Fin 64, 0 < k.val → k0_off22 (wd k.val) = gOff (bkk (k.val - 1)) := by decide +kernel
theorem off25_end : k0_off25 (wd 0) = qOff (bkk 63) := by decide +kernel
theorem off28_end : k0_off28 (wd 0) = gOff (bkk 63) := by decide +kernel

instance (s : Fin 2) : ClosedOff (xsOff s) := ⟨xsOff s, rfl⟩
instance (s : Fin 2) : ClosedOff (qsOff s) := ⟨qsOff s, rfl⟩
instance (s : Fin 2) : ClosedOff (gsOff s) := ⟨gsOff s, rfl⟩
instance (b : Fin 64) : ClosedOff (xOff b) := ⟨xOff b, rfl⟩
instance (b : Fin 64) : ClosedOff (qOff b) := ⟨qOff b, rfl⟩
instance (b : Fin 64) : ClosedOff (gOff b) := ⟨gOff b, rfl⟩
instance (j : ℕ) : ClosedOff (k0_off9 (wd j)) := ⟨xsOff (slk j), off9_eq j⟩

/-! The conditions and the checks at trip `k`. -/
theorem cond1_all : ∀ k : Fin k0_t1_loop.trips, k.val < 63 → k0_cond1 k (wd k.val) = 1#1 := by decide +kernel
theorem cond1_last : ∀ k : Fin k0_t1_loop.trips, k.val = 63 → ¬ k0_cond1 k (wd k.val) = 1#1 := by decide +kernel
theorem cond2_all : ∀ k : Fin k0_t1_loop.trips, k0_cond2 k (wd k.val) = 1#1 := by decide +kernel
theorem cond6_all : ∀ k : Fin k0_t1_loop.trips, k0_cond6 k (wd k.val) = 1#1 := by decide +kernel
theorem cond7_all : ∀ k : Fin k0_t1_loop.trips, k0_cond7 k (wd k.val) = 1#1 := by decide +kernel
theorem cond9_all : ∀ k : Fin k0_t1_loop.trips, 0 < k.val → k0_cond9 k (wd k.val) = 1#1 := by decide +kernel
theorem cond9_zero : ∀ k : Fin k0_t1_loop.trips, k.val = 0 → ¬ k0_cond9 k (wd k.val) = 1#1 := by decide +kernel
theorem cond10_all : ∀ k : Fin k0_t1_loop.trips, 0 < k.val → k0_cond10 k (wd k.val) = 1#1 := by decide +kernel
theorem cond10_zero : ∀ k : Fin k0_t1_loop.trips, k.val = 0 → ¬ k0_cond10 k (wd k.val) = 1#1 := by decide +kernel
theorem chk1_all : ∀ k : Fin k0_t1_loop.trips, k0_chk1 k (wd (k.val + 1)) (wd k.val) (wd k.val) (wd (k.val - 1)) (wd k.val) (wd (k.val - 1)) (wd k.val) := by decide +kernel
theorem chk2_all : ∀ k : Fin k0_t1_loop.trips, k0_chk2 (wd k.val) := by decide +kernel
theorem chk3_all : ∀ k : Fin k0_t1_loop.trips, k0_chk3 (wd k.val) := by decide +kernel
theorem chk4_all : ∀ k : Fin k0_t1_loop.trips, k0_chk4 (wd k.val) := by decide +kernel
theorem chk5_end : k0_chk5 (wd 63) := by decide +kernel
theorem chk6_end : k0_chk6 (wd 0) := by decide +kernel
theorem chk7_end : k0_chk7 (wd 63) := by decide +kernel

/-! ## The slices the body takes, under these names -/

section Canon
variable (j : ℕ)
@[sl_canon] theorem xc3 (hh) : (cc0_scoped1.slice (Rect.unit (s := S2) (k0_off3 (wd j)) S1.size hh)).squeeze S_ squeezes_S1_S_ = xc (slk j) := xc_congr (off3_eq j) _
@[sl_canon] theorem xs4 (hh hs) : (xB.slice (Rect.unit (s := S2x256x2048) (k0_off4 (wd j)) S1x256x2048.size hh) hs).squeeze S256x2048 squeezes_S1x256x2048_S256x2048 = xslot (slk j) := xslot_congr (off4_eq j) _ _
@[sl_canon] theorem xb5 (h : j + 1 < 64) (hh hs) : xM.slice (Rect.unit (s := S16384x2048) (k0_off5 (wd j)) S256x2048.size hh) hs = xblk (bkk (j + 1)) := xblk_congr (off5_all ⟨j, by omega⟩) _ _
@[sl_canon] theorem xc6 (hh) : (cc0_scoped1.slice (Rect.unit (s := S2) (k0_off6 (wd j)) S1.size hh)).squeeze S_ squeezes_S1_S_ = xc (slk j) := xc_congr (off6_eq j) _
@[sl_canon] theorem xs7 (hh hs) : (xB.slice (Rect.unit (s := S2x256x2048) (k0_off7 (wd j)) S1x256x2048.size hh) hs).squeeze S256x2048 squeezes_S1x256x2048_S256x2048 = xslot (slk j) := xslot_congr (off7_eq j) _ _
@[sl_canon] theorem xb8 (h : j < 64) (hh hs) : xM.slice (Rect.unit (s := S16384x2048) (k0_off8 (wd j)) S256x2048.size hh) hs = xblk (bkk j) := xblk_congr (off8_all ⟨j, h⟩) _ _
@[sl_canon] theorem qs10 (hh hs) : (qB.slice (Rect.unit (s := S2x24x1x16x16x128) (k0_off10 (wd j)) S1x24x1x16x16x128.size hh) hs).squeeze S24x1x16x16x128 squeezes_S1x24x1x16x16x128_S24x1x16x16x128 = qslot (slk j) := qslot_congr (off10_eq j) _ _
@[sl_canon] theorem gs11 (hh hs) : (gB.slice (Rect.unit (s := S2x16x256x128) (k0_off11 (wd j)) S1x16x256x128.size hh) hs).squeeze S16x256x128 squeezes_S1x16x256x128_S16x256x128 = gslot (slk j) := gslot_congr (off11_eq j) _ _
@[sl_canon] theorem qc12 (hh) : (cc0_scoped3.slice (Rect.unit (s := S2) (k0_off12 (wd j)) S1.size hh)).squeeze S_ squeezes_S1_S_ = qc (slk j) := qc_congr (off12_eq j) _
@[sl_canon] theorem qb13 (h : j < 64) (hh hs) : qM.slice (Rect.unit (s := S24x4x16x256x128) (k0_off13 (wd j)) S24x1x16x16x128.size hh) hs = qblk (bkk j) := qblk_congr (off13_all ⟨j, h⟩) _ _
@[sl_canon] theorem qs14 (hh hs) : (qB.slice (Rect.unit (s := S2x24x1x16x16x128) (k0_off14 (wd j)) S1x24x1x16x16x128.size hh) hs).squeeze S24x1x16x16x128 squeezes_S1x24x1x16x16x128_S24x1x16x16x128 = qslot (slk j) := qslot_congr (off14_eq j) _ _
@[sl_canon] theorem gc15 (hh) : (cc0_scoped5.slice (Rect.unit (s := S2) (k0_off15 (wd j)) S1.size hh)).squeeze S_ squeezes_S1_S_ = gc (slk j) := gc_congr (off15_eq j) _
@[sl_canon] theorem gb16 (h : j < 64) (hh hs) : gM.slice (Rect.unit (s := S16x16384x128) (k0_off16 (wd j)) S16x256x128.size hh) hs = gblk (bkk j) := gblk_congr (off16_all ⟨j, h⟩) _ _
@[sl_canon] theorem gs17 (hh hs) : (gB.slice (Rect.unit (s := S2x16x256x128) (k0_off17 (wd j)) S1x16x256x128.size hh) hs).squeeze S16x256x128 squeezes_S1x16x256x128_S16x256x128 = gslot (slk j) := gslot_congr (off17_eq j) _ _
@[sl_canon] theorem qc18 (hh) : (cc0_scoped3.slice (Rect.unit (s := S2) (k0_off18 (wd j)) S1.size hh)).squeeze S_ squeezes_S1_S_ = qc (slk j) := qc_congr (off18_eq j) _
@[sl_canon] theorem qb19 (h0 : 0 < j) (h : j < 64) (hh hs) : qM.slice (Rect.unit (s := S24x4x16x256x128) (k0_off19 (wd j)) S24x1x16x16x128.size hh) hs = qblk (bkk (j - 1)) := qblk_congr (off19_all ⟨j, h⟩ h0) _ _
@[sl_canon] theorem qs20 (hh hs) : (qB.slice (Rect.unit (s := S2x24x1x16x16x128) (k0_off20 (wd j)) S1x24x1x16x16x128.size hh) hs).squeeze S24x1x16x16x128 squeezes_S1x24x1x16x16x128_S24x1x16x16x128 = qslot (slk j) := qslot_congr (off20_eq j) _ _
@[sl_canon] theorem gc21 (hh) : (cc0_scoped5.slice (Rect.unit (s := S2) (k0_off21 (wd j)) S1.size hh)).squeeze S_ squeezes_S1_S_ = gc (slk j) := gc_congr (off21_eq j) _
@[sl_canon] theorem gb22 (h0 : 0 < j) (h : j < 64) (hh hs) : gM.slice (Rect.unit (s := S16x16384x128) (k0_off22 (wd j)) S16x256x128.size hh) hs = gblk (bkk (j - 1)) := gblk_congr (off22_all ⟨j, h⟩ h0) _ _
@[sl_canon] theorem gs23 (hh hs) : (gB.slice (Rect.unit (s := S2x16x256x128) (k0_off23 (wd j)) S1x16x256x128.size hh) hs).squeeze S16x256x128 squeezes_S1x16x256x128_S16x256x128 = gslot (slk j) := gslot_congr (off23_eq j) _ _
@[sl_canon] theorem qc24 (hh) : (cc0_scoped3.slice (Rect.unit (s := S2) (k0_off24 (wd j)) S1.size hh)).squeeze S_ squeezes_S1_S_ = qc (slk j) := qc_congr (off24_eq j) _
@[sl_canon] theorem qb25 (hh hs) : qM.slice (Rect.unit (s := S24x4x16x256x128) (k0_off25 (wd 0)) S24x1x16x16x128.size hh) hs = qblk (bkk 63) := qblk_congr off25_end _ _
@[sl_canon] theorem qs26 (hh hs) : (qB.slice (Rect.unit (s := S2x24x1x16x16x128) (k0_off26 (wd j)) S1x24x1x16x16x128.size hh) hs).squeeze S24x1x16x16x128 squeezes_S1x24x1x16x16x128_S24x1x16x16x128 = qslot (slk j) := qslot_congr (off26_eq j) _ _
@[sl_canon] theorem gc27 (hh) : (cc0_scoped5.slice (Rect.unit (s := S2) (k0_off27 (wd j)) S1.size hh)).squeeze S_ squeezes_S1_S_ = gc (slk j) := gc_congr (off27_eq j) _
@[sl_canon] theorem gb28 (hh hs) : gM.slice (Rect.unit (s := S16x16384x128) (k0_off28 (wd 0)) S16x256x128.size hh) hs = gblk (bkk 63) := gblk_congr off28_end _ _
@[sl_canon] theorem gs29 (hh hs) : (gB.slice (Rect.unit (s := S2x16x256x128) (k0_off29 (wd j)) S1x16x256x128.size hh) hs).squeeze S16x256x128 squeezes_S1x16x256x128_S16x256x128 = gslot (slk j) := gslot_congr (off29_eq j) _ _
/-! The first fetch, before the loop. -/
@[sl_canon] theorem xc1 (hh) : (cc0_scoped1.slice (Rect.unit (s := S2) k0_off1 S1.size hh)).squeeze S_ squeezes_S1_S_ = xc (slk 0) := xc_congr (by decide) _
@[sl_canon] theorem xs2 (hh hs) : (xB.slice (Rect.unit (s := S2x256x2048) k0_off2 S1x256x2048.size hh) hs).squeeze S256x2048 squeezes_S1x256x2048_S256x2048 = xslot (slk 0) := xslot_congr (by decide) _ _
@[sl_canon] theorem xb0 (hh hs) : xM.slice (Rect.unit (s := S16384x2048) ![0, 0] S256x2048.size hh) hs = xblk (bkk 0) := xblk_congr (by decide) _ _
end Canon

end Cert.Proof.InProj

end
-- ==== Proof.Pieces.lean ====
/-
  The resources of the pipeline's loop: a block of an array, a slot of a buffer, a semaphore at zero, a copy in flight.
-/
module

public import proofs.«01_k».proof.Proof.Names

@[expose] public section

noncomputable section

namespace Cert.Proof.InProj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra: the pipeline library's beside the counters the kernel's own copies ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

variable (c : Dev nD)

/-- The contents of a memref's buffer. -/
abbrev Cn (F : FTy → Type) {sp : Space} {s : Shape} {e : EltTy} (M : Memref sig .tc sp s e) (c : Dev nD) : Type := Buf (Elt F) (M.view.loc (c : Thread nD τ))

/-- A memref's own elements, held at `f`. -/
abbrev own {sp : Space} {s : Shape} {e : EltTy} (M : Memref sig .tc sp s e) (f : Buf (Elt F) (M.view.loc (c : Thread nD τ))) : sProp 𝕄 :=
  M.view.loc (c : Thread nD τ) ↦[M.view.set]{fullShare} f
/-- Block `b` of the activations, of the first and of the second result, held at the array's contents. -/
abbrev xh (X : Buf (Elt F) (xM.view.loc (c : Thread nD τ))) (b : Fin 64) : sProp 𝕄 := (xblk b).view.loc (c : Thread nD τ) ↦[(xblk b).view.set]{fullShare} X
abbrev qh (Q : Buf (Elt F) (qM.view.loc (c : Thread nD τ))) (b : Fin 64) : sProp 𝕄 := (qblk b).view.loc (c : Thread nD τ) ↦[(qblk b).view.set]{fullShare} Q
abbrev gh (G : Buf (Elt F) (gM.view.loc (c : Thread nD τ))) (b : Fin 64) : sProp 𝕄 := (gblk b).view.loc (c : Thread nD τ) ↦[(gblk b).view.set]{fullShare} G
/-- A semaphore at zero. -/
abbrev zero (S : DmaSems sig S_) : sProp 𝕄 := semVal ((c : Thread nD τ), SemLoc.dma S.sem) 0
/-- A copy of `n` units in flight on the semaphore, delivering `P`. -/
abbrev fly (S : DmaSems sig S_) (n : ℕ) (P : sProp 𝕄) : sProp 𝕄 :=
  Transfers.Flight countersEmb (c : Thread nD τ) (SemLoc.dma S.sem) () n P
/-- Slot `s` of each buffer, held at the buffer's contents. -/
abbrev xs (s : Fin 2) (f : Buf (Elt F) (xB.view.loc (c : Thread nD τ))) : sProp 𝕄 := (xslot s).view.loc (c : Thread nD τ) ↦[(xslot s).view.set]{fullShare} f
abbrev qs (s : Fin 2) (f : Buf (Elt F) (qB.view.loc (c : Thread nD τ))) : sProp 𝕄 := (qslot s).view.loc (c : Thread nD τ) ↦[(qslot s).view.set]{fullShare} f
abbrev gs (s : Fin 2) (f : Buf (Elt F) (gB.view.loc (c : Thread nD τ))) : sProp 𝕄 := (gslot s).view.loc (c : Thread nD τ) ↦[(gslot s).view.set]{fullShare} f
/-- Block `j` of the activations on its way into its slot; of a result, on its way out of it. -/
abbrev xfly (X : Buf (Elt F) (xM.view.loc (c : Thread nD τ))) (j : ℕ) (f : Buf (Elt F) (xB.view.loc (c : Thread nD τ))) : sProp 𝕄 :=
  fly c (xc (slk j)) 65536 iprop(xs c (slk j) f ∗ xh c X (bkk j))
abbrev qfly (Q : Buf (Elt F) (qM.view.loc (c : Thread nD τ))) (j : ℕ) (f : Buf (Elt F) (qB.view.loc (c : Thread nD τ))) : sProp 𝕄 :=
  fly c (qc (slk j)) 98304 iprop(qh c Q (bkk j) ∗ qs c (slk j) f)
abbrev gfly (G : Buf (Elt F) (gM.view.loc (c : Thread nD τ))) (j : ℕ) (f : Buf (Elt F) (gB.view.loc (c : Thread nD τ))) : sProp 𝕄 :=
  fly c (gc (slk j)) 65536 iprop(gh c G (bkk j) ∗ gs c (slk j) f)

/-- The seven words the loop carries. -/
abbrev Words : Type := BitVec 32 × BitVec 32 × BitVec 32 × BitVec 32 × BitVec 32 × BitVec 32 × BitVec 32

/-- One trip of the pipeline's loop, at the kernel's arrays and buffers. -/
abbrev trip (k : Fin k0_t1_loop.trips) (acc : Words) : Prog (TpuEff nD τ sig (Elt F) Λ₀ .tc) Words :=
  k0_t1_body (F := F) xM (Memref.isWhole_whole _) wM (Memref.isWhole_whole _) qM (Memref.isWhole_whole _) gM (Memref.isWhole_whole _)
    wB (Memref.isWhole_whole _) cc0_scratch1 xB (Memref.isWhole_whole _) cc0_scoped1 qB (Memref.isWhole_whole _) cc0_scoped3 gB (Memref.isWhole_whole _) cc0_scoped5 k acc

/-- The words before trip `k`, the trip in range. -/
abbrev wordsIn (k : ℕ) : Words := (wd (k + 1), wd k, wd k, wd (k - 1), wd k, wd (k - 1), wd k)

theorem words_in (k : ℕ) (hk : k < 64) : words k = wordsIn k := by
  rw [words, wordsIn, Nat.min_eq_left (by omega), Nat.mod_eq_of_lt hk]

end Cert.Proof.InProj

end
-- ==== Proof.Slots.lean ====
/-
  What one trip stores in a slot of each result: 384 pieces of the three head projections, 16 of the two LRU ones.
-/
module

public import proofs.«01_k».proof.Proof.Pieces

@[expose] public section

noncomputable section

namespace Cert.Proof.InProj

open Cert.KernelIdeal Cert.KernelIdeal.Gen
open Idealize.ShloMosaic
open Idealize.ShloMosaic.TcCoe Idealize.ShloMosaic.Tactic
open Idealize.SL Idealize.SL.RA Idealize.SL.BI
open scoped Idealize.SL.BI

variable {F : FTy → Type} [FloatOps F]
variable (c : Dev nD)

/-- The block of activations with its rows permuted: row `16 r + i` of the result is row `16 i + r`. -/
def xperm (xv : FVec F S256x2048 .bf16) : FVec F S256x2048 .bf16 :=
  k0_pay3 xv (iota .tc S256x256 32 [0] iota_S256x256_d0_w32) 16#32 k0_pay2

/-- The 1024 columns of the weights from column `1024 g` on. -/
def wcols (WS : Cn F wB c) (g : Fin 5) : Vec F S2048x1024 .bf16 :=
  View.readAt (Elt F) wB.view (Rect.unit (s := S2048x5120) ![0, 1024 * g.val] S2048x1024.size (by revert g; decide)).toLoadRect WS

/-- The group of eight heads plane `p` of the first result is cut from. -/
def qgroup (xv : FVec F S256x2048 .bf16) (WS : Cn F wB c) (p : ℕ) : FVec F S256x1024 .f32 :=
  bif Nat.blt p 8 then k0_pay4 (xperm xv) (wcols c WS 0)
  else bif Nat.blt p 16 then k0_pay173 (xperm xv) (wcols c WS 1)
  else k0_pay341 (xperm xv) (wcols c WS 2)

/-- The group of eight column blocks plane `p` of the second result is cut from. -/
def ggroup (xv : FVec F S256x2048 .bf16) (WS : Cn F wB c) (p : ℕ) : FVec F S256x1024 .f32 :=
  bif Nat.blt p 8 then k0_pay511 xv (wcols c WS 3) else k0_pay511 xv (wcols c WS 4)

theorem q_inb (p r : ℕ) (hp : p < 24) (hr : r < 16) :
    ∀ a : Fin S24x1x16x16x128.rank, (![p, 0, r, 0, 0] : Fin S24x1x16x16x128.rank → ℕ) a + S1x1x1x16x128.size a ≤ S24x1x16x16x128.size a := by
  intro a; fin_cases a <;> simp [S24x1x16x16x128, S1x1x1x16x128] <;> omega

theorem g_inb (p : ℕ) (hp : p < 16) :
    ∀ a : Fin S16x256x128.rank, (![p, 0, 0] : Fin S16x256x128.rank → ℕ) a + S1x256x128.size a ≤ S16x256x128.size a := by
  intro a; fin_cases a <;> simp [S16x256x128, S1x256x128] <;> omega

theorem col_slices (p : ℕ) : S256x1024.Slices ![0, 128 * (p % 8)] S256x128 := by
  have : p % 8 < 8 := Nat.mod_lt _ (by decide)
  generalize p % 8 = q at *
  interval_cases q <;> decide

theorem row_slices (r : ℕ) (hr : r < 16) : S256x128.Slices ![16 * r, 0] S16x128 := by
  interval_cases r <;> decide

/-- The piece at plane `p`, row group `r`, of a slot of the first result. -/
def qpiece (M : FVec F S256x1024 .f32) (p r : ℕ) (hp : p < 24) (hr : r < 16) : View.Piece (Elt F) S24x1x16x16x128 .f32 :=
  ⟨Rect.unit ![p, 0, r, 0, 0] S1x1x1x16x128.size (q_inb p r hp hr),
    shapeCast S1x1x1x16x128 (extractStridedSlice S16x128 ![16 * r, 0]
      (extractStridedSlice S256x128 ![0, 128 * (p % 8)] M (col_slices p)) (row_slices r hr)) shapeCasts_S16x128_S1x1x1x16x128⟩

/-- The piece at plane `p` of a slot of the second result. -/
def gpiece (M : FVec F S256x1024 .f32) (p : ℕ) (hp : p < 16) : View.Piece (Elt F) S16x256x128 .f32 :=
  ⟨Rect.unit ![p, 0, 0] S1x256x128.size (g_inb p hp),
    shapeCast S1x256x128 (extractStridedSlice S256x128 ![0, 128 * (p % 8)] M (col_slices p)) shapeCasts_S256x128_S1x256x128⟩

/-- The first `n` pieces stored in a slot of the first result, the newest first. -/
def qlist (xv : FVec F S256x2048 .bf16) (WS : Cn F wB c) : (n : ℕ) → n ≤ 384 → List (View.Piece (Elt F) S24x1x16x16x128 .f32)
  | 0, _ => []
  | n + 1, h => qpiece (qgroup c xv WS (n / 16)) (n / 16) (n % 16) (by omega) (by omega) :: qlist xv WS n (by omega)

/-- The first `n` pieces stored in a slot of the second result, the newest first. -/
def glist (xv : FVec F S256x2048 .bf16) (WS : Cn F wB c) : (n : ℕ) → n ≤ 16 → List (View.Piece (Elt F) S16x256x128 .f32)
  | 0, _ => []
  | n + 1, h => gpiece (ggroup c xv WS n) n (by omega) :: glist xv WS n (by omega)

end Cert.Proof.InProj

end
-- ==== Proof.Land.lean ====
/-
  What the copies land: a block of activations in a slot, a slot of results in its block of the array.
-/
module

public import proofs.«01_k».proof.Proof.Slots
public import Idealize.ShloMosaic.Lib.Pipeline.Value

@[expose] public section

noncomputable section

namespace Cert.Proof.InProj

open Cert.KernelIdeal Cert.KernelIdeal.Gen
open Idealize.ShloMosaic
open Idealize.ShloMosaic.TcCoe Idealize.ShloMosaic.Tactic
open Idealize.SL Idealize.SL.RA Idealize.SL.BI
open scoped Idealize.SL.BI

variable {F : FTy → Type} [FloatOps F]
local notation "𝕄" => MT nD τ sig Unit (Elt F) ℕ (UU nD τ) ℕ
variable (c : Dev nD)

/-- The index of a matrix at a row and a column. -/
def ix2 {n m : ℕ} (i : Fin n) (j : Fin m) : (⟨2, ![n, m]⟩ : Shape).Idx
  | ⟨0, _⟩ => i
  | ⟨1, _⟩ => j

/-- The block of activations a slot holds, rounded to bf16. -/
def xval (s : Fin 2) (f : Cn F xB c) : FVec F S256x2048 .bf16 :=
  truncf .bf16 ((xslot s).view.read (Elt F) f) bitsLt_bf16_f32

/-- Block `b` of the activations, rounded to bf16. -/
def xspec (XA : Cn F xM c) (b : Fin 64) : FVec F S256x2048 .bf16 :=
  truncf .bf16 ((xblk b).view.read (Elt F) XA) bitsLt_bf16_f32

/-- The first and the second result. -/
def Q1 (XA : Cn F xM c) (WS : Cn F wB c) : Cn F qM c := fun (i : S24x4x16x256x128.Idx) =>
  have h0 : (i 0).val < 24 := (i 0).isLt
  have h1 : (i 1).val < 4 := (i 1).isLt
  have h2 : (i 2).val < 16 := (i 2).isLt
  have h3 : (i 3).val < 256 := (i 3).isLt
  have h4 : (i 4).val < 128 := (i 4).isLt
  qgroup c (xspec c XA ⟨16 * (i 1).val + (i 3).val / 16, by omega⟩) WS (i 0).val
    (ix2 ⟨16 * (i 2).val + (i 3).val % 16, by omega⟩ ⟨128 * ((i 0).val % 8) + (i 4).val, by omega⟩)
def G1 (XA : Cn F xM c) (WS : Cn F wB c) : Cn F gM c := fun (i : S16x16384x128.Idx) =>
  have h0 : (i 0).val < 16 := (i 0).isLt
  have h1 : (i 1).val < 16384 := (i 1).isLt
  have h2 : (i 2).val < 128 := (i 2).isLt
  ggroup c (xspec c XA ⟨(i 1).val / 256, by omega⟩) WS (i 0).val
    (ix2 ⟨(i 1).val % 256, by omega⟩ ⟨128 * ((i 0).val % 8) + (i 2).val, by omega⟩)

theorem load_slot (s : Fin 2) (f : Cn F xB c) (off : Fin 3 → ℕ) (e : off = xsOff s) (h) :
    k0_pay1 (View.readAt (Elt F) xB.view (Rect.unit (s := S2x256x2048) off S1x256x2048.size h).toLoadRect f) = xval c s f := by
  subst e
  unfold k0_pay1 xval
  refine congrArg (fun v => truncf .bf16 v bitsLt_bf16_f32) ?_
  funext y
  rw [View.readAt_rect]
  rfl

/-- A whole write through a view is what is read through it. -/
theorem read_whole {sp : Space} {s : Shape} {e : EltTy} (M : Memref sig .tc sp s e) (f : Cn F M c) (w : s.Idx → Elt F e) :
    M.view.read (Elt F) (M.view.writes (Elt F) f [⟨Rect.whole s, w⟩]) = w := by
  funext y
  have := View.read_writes_cons_emb (Val := Elt F) M.view f (Rect.whole s) w [] y
  rwa [Rect.emb_whole_apply] at this

theorem x_land (s : Fin 2) (b : Fin 64) (XA : Cn F xM c) (f : Cn F xB c) :
    xval c s ((xslot s).view.writes (Elt F) f [⟨Rect.whole S256x2048, ReadAs.same.apply ((xblk b).view.read (Elt F) XA)⟩]) = xspec c XA b := by
  refine congrArg (fun v => truncf .bf16 v bitsLt_bf16_f32) ?_
  exact read_whole c (xslot s) f _

/-- A whole write through a view leaves what is read through the view. -/
theorem land {sp : Space} {s : Shape} {e : EltTy} (M : Memref sig .tc sp s e) (f g : Cn F M c) (w : s.Idx → Elt F e)
    (h : ∀ y, w y = M.view.read (Elt F) g y) :
    (own c M (M.view.writes (Elt F) f [⟨Rect.whole s, w⟩]) : sProp 𝕄) = own c M g := by
  refine pointsTo_congr fun i hi => ?_
  obtain ⟨y, -, rfl⟩ := Finset.mem_map.mp hi
  have := (congrFun (read_whole c M f w) y).trans (h y)
  exact (cast_bijective _).1 this

theorem qlist_mem (xv : FVec F S256x2048 .bf16) (WS : Cn F wB c) (n : ℕ) (h : n ≤ 384) (p) :
    p ∈ qlist c xv WS n h ↔ ∃ m, ∃ hm : m < n, p = qpiece (qgroup c xv WS (m / 16)) (m / 16) (m % 16) (by omega) (by omega) := by
  induction n with
  | zero => simp [qlist]
  | succ n ih =>
    rw [qlist, List.mem_cons, ih]
    constructor
    · rintro (rfl | ⟨m, hm, rfl⟩)
      · exact ⟨n, by omega, rfl⟩
      · exact ⟨m, by omega, rfl⟩
    · rintro ⟨m, hm, rfl⟩
      rcases Nat.lt_succ_iff_lt_or_eq.mp hm with h | rfl
      · exact .inr ⟨m, h, rfl⟩
      · exact .inl rfl

theorem glist_mem (xv : FVec F S256x2048 .bf16) (WS : Cn F wB c) (n : ℕ) (h : n ≤ 16) (p) :
    p ∈ glist c xv WS n h ↔ ∃ m, ∃ hm : m < n, p = gpiece (ggroup c xv WS m) m (by omega) := by
  induction n with
  | zero => simp [glist]
  | succ n ih =>
    rw [glist, List.mem_cons, ih]
    constructor
    · rintro (rfl | ⟨m, hm, rfl⟩)
      · exact ⟨n, by omega, rfl⟩
      · exact ⟨m, by omega, rfl⟩
    · rintro ⟨m, hm, rfl⟩
      rcases Nat.lt_succ_iff_lt_or_eq.mp hm with h | rfl
      · exact .inr ⟨m, h, rfl⟩
      · exact .inl rfl

theorem qpiece_apply (M : FVec F S256x1024 .f32) (p r : ℕ) (hp : p < 24) (hr : r < 16) (x : S1x1x1x16x128.Idx)
    (h1 : 16 * r + (x 3).val < 256) (h2 : 128 * (p % 8) + (x 4).val < 1024) :
    (qpiece M p r hp hr).2 x = M (ix2 ⟨16 * r + (x 3).val, h1⟩ ⟨128 * (p % 8) + (x 4).val, h2⟩) := by
  have x0 : (x 0).val = 0 := by have : (x 0).val < 1 := (x 0).isLt; omega
  have x1 : (x 1).val = 0 := by have : (x 1).val < 1 := (x 1).isLt; omega
  have x2 : (x 2).val = 0 := by have : (x 2).val < 1 := (x 2).isLt; omega
  have x3 : (x 3).val < 16 := (x 3).isLt
  have x4 : (x 4).val < 128 := (x 4).isLt
  refine Eq.trans (b := shapeCast S1x1x1x16x128 (extractStridedSlice S16x128 ![16 * r, 0]
      (extractStridedSlice S256x128 ![0, 128 * (p % 8)] M (col_slices p)) (row_slices r hr)) shapeCasts_S16x128_S1x1x1x16x128 x) rfl ?_
  refine (shapeCast_apply (s := S16x128) _ _ x (ix2 ⟨(x 3).val, x3⟩ ⟨(x 4).val, x4⟩) ?_).trans ?_
  · rw [Shape.rowMajor_val_two, Shape.rowMajor_val_five]
    show (x 3).val * 128 + (x 4).val = (((((x 0).val * 1 + (x 1).val) * 1 + (x 2).val) * 16 + (x 3).val) * 128 + (x 4).val)
    omega
  refine (extractStridedSlice_apply _ _ _ _ (ix2 ⟨16 * r + (x 3).val, by omega⟩ ⟨(x 4).val, x4⟩) ?_).trans ?_
  · intro a
    match a with
    | ⟨0, _⟩ => rfl
    | ⟨1, _⟩ => show (x 4).val = 0 + (x 4).val; omega
  refine (extractStridedSlice_apply _ _ _ _ (ix2 ⟨16 * r + (x 3).val, by omega⟩ ⟨128 * (p % 8) + (x 4).val, by omega⟩) ?_).trans rfl
  · intro a
    match a with
    | ⟨0, _⟩ => show 16 * r + (x 3).val = 0 + (16 * r + (x 3).val); omega
    | ⟨1, _⟩ => rfl

theorem gpiece_apply (M : FVec F S256x1024 .f32) (p : ℕ) (hp : p < 16) (x : S1x256x128.Idx)
    (h1 : (x 1).val < 256) (h2 : 128 * (p % 8) + (x 2).val < 1024) :
    (gpiece M p hp).2 x = M (ix2 ⟨(x 1).val, h1⟩ ⟨128 * (p % 8) + (x 2).val, h2⟩) := by
  have x0 : (x 0).val = 0 := by have : (x 0).val < 1 := (x 0).isLt; omega
  have x2 : (x 2).val < 128 := (x 2).isLt
  refine Eq.trans (b := shapeCast S1x256x128 (extractStridedSlice S256x128 ![0, 128 * (p % 8)] M (col_slices p)) shapeCasts_S256x128_S1x256x128 x) rfl ?_
  refine (shapeCast_apply (s := S256x128) _ _ x (ix2 ⟨(x 1).val, h1⟩ ⟨(x 2).val, x2⟩) ?_).trans ?_
  · rw [Shape.rowMajor_val_two, Shape.rowMajor_val_three]
    show (x 1).val * 128 + (x 2).val = ((x 0).val * 256 + (x 1).val) * 128 + (x 2).val
    omega
  refine (extractStridedSlice_apply _ _ _ _ (ix2 ⟨(x 1).val, h1⟩ ⟨128 * (p % 8) + (x 2).val, by omega⟩) ?_).trans rfl
  · intro a
    match a with
    | ⟨0, _⟩ => show (x 1).val = 0 + (x 1).val; omega
    | ⟨1, _⟩ => rfl

/-- A slot of the first result after a trip's stores. -/
theorem q_slot (v : Memref sig .tc .vmem S24x1x16x16x128 .f32) (f : Cn F v c) (xv : FVec F S256x2048 .bf16) (WS : Cn F wB c)
    (y : S24x1x16x16x128.Idx) (h1 : 16 * (y 2).val + (y 3).val < 256) (h2 : 128 * ((y 0).val % 8) + (y 4).val < 1024) :
    v.view.read (Elt F) (v.view.writes (Elt F) f (qlist c xv WS 384 le_rfl)) y
      = qgroup c xv WS (y 0).val (ix2 ⟨16 * (y 2).val + (y 3).val, h1⟩ ⟨128 * ((y 0).val % 8) + (y 4).val, h2⟩) := by
  have hb0 : (y 0).val < 24 := (y 0).isLt
  have hb2 : (y 2).val < 16 := (y 2).isLt
  let G : S24x1x16x16x128.Idx → Elt F .f32 := fun y =>
    have a0 : (y 0).val < 24 := (y 0).isLt
    have a2 : (y 2).val < 16 := (y 2).isLt
    have a3 : (y 3).val < 16 := (y 3).isLt
    have a4 : (y 4).val < 128 := (y 4).isLt
    qgroup c xv WS (y 0).val (ix2 ⟨16 * (y 2).val + (y 3).val, by omega⟩ ⟨128 * ((y 0).val % 8) + (y 4).val, by omega⟩)
  refine View.read_writes_apply_of_pieces (Val := Elt F) v.view f G _ ?_ y ?_
  · intro p hp x
    obtain ⟨m, hm, rfl⟩ := (qlist_mem c xv WS _ _ _).mp hp
    have x0 : (x 0).val = 0 := by have : (x 0).val < 1 := (x 0).isLt; omega
    have x1 : (x 1).val = 0 := by have : (x 1).val < 1 := (x 1).isLt; omega
    have x2 : (x 2).val = 0 := by have : (x 2).val < 1 := (x 2).isLt; omega
    have x3 : (x 3).val < 16 := (x 3).isLt
    have x4 : (x 4).val < 128 := (x 4).isLt
    have hmm := Nat.div_add_mod m 16
    have e0 : ((qpiece (qgroup c xv WS (m / 16)) (m / 16) (m % 16) (by omega) (by omega)).1.emb x 0).val = m / 16 := by
      show m / 16 + 1 * (x 0).val = _; omega
    have e2 : ((qpiece (qgroup c xv WS (m / 16)) (m / 16) (m % 16) (by omega) (by omega)).1.emb x 2).val = m % 16 := by
      show m % 16 + 1 * (x 2).val = _; omega
    have e3 : ((qpiece (qgroup c xv WS (m / 16)) (m / 16) (m % 16) (by omega) (by omega)).1.emb x 3).val = (x 3).val := by
      show 0 + 1 * (x 3).val = _; omega
    have e4 : ((qpiece (qgroup c xv WS (m / 16)) (m / 16) (m % 16) (by omega) (by omega)).1.emb x 4).val = (x 4).val := by
      show 0 + 1 * (x 4).val = _; omega
    dsimp only [G]
    simp only [e0, e2, e3, e4]
    exact qpiece_apply _ _ _ _ _ x _ _
  · refine ⟨_, (qlist_mem c xv WS _ _ _).mpr ⟨16 * (y 0).val + (y 2).val, by omega, rfl⟩, ?_⟩
    have y1 : (y 1).val = 0 := by have : (y 1).val < 1 := (y 1).isLt; omega
    have y3 : (y 3).val < 16 := (y 3).isLt
    have y4 : (y 4).val < 128 := (y 4).isLt
    refine (Rect.mem_set_unit (inb := q_inb _ _ (by omega) (by omega))).mpr ?_
    intro a
    match a with
    | ⟨0, _⟩ => show (16 * (y 0).val + (y 2).val) / 16 ≤ (y 0).val ∧ (y 0).val < (16 * (y 0).val + (y 2).val) / 16 + 1; omega
    | ⟨1, _⟩ => show 0 ≤ (y 1).val ∧ (y 1).val < 0 + 1; omega
    | ⟨2, _⟩ => show (16 * (y 0).val + (y 2).val) % 16 ≤ (y 2).val ∧ (y 2).val < (16 * (y 0).val + (y 2).val) % 16 + 1; omega
    | ⟨3, _⟩ => show 0 ≤ (y 3).val ∧ (y 3).val < 0 + 16; omega
    | ⟨4, _⟩ => show 0 ≤ (y 4).val ∧ (y 4).val < 0 + 128; omega

/-- A slot of the second result after a trip's stores. -/
theorem g_slot (v : Memref sig .tc .vmem S16x256x128 .f32) (f : Cn F v c) (xv : FVec F S256x2048 .bf16) (WS : Cn F wB c)
    (y : S16x256x128.Idx) (h1 : (y 1).val < 256) (h2 : 128 * ((y 0).val % 8) + (y 2).val < 1024) :
    v.view.read (Elt F) (v.view.writes (Elt F) f (glist c xv WS 16 le_rfl)) y
      = ggroup c xv WS (y 0).val (ix2 ⟨(y 1).val, h1⟩ ⟨128 * ((y 0).val % 8) + (y 2).val, h2⟩) := by
  have hb0 : (y 0).val < 16 := (y 0).isLt
  let G : S16x256x128.Idx → Elt F .f32 := fun y =>
    have a0 : (y 0).val < 16 := (y 0).isLt
    have a1 : (y 1).val < 256 := (y 1).isLt
    have a2 : (y 2).val < 128 := (y 2).isLt
    ggroup c xv WS (y 0).val (ix2 ⟨(y 1).val, by omega⟩ ⟨128 * ((y 0).val % 8) + (y 2).val, by omega⟩)
  refine View.read_writes_apply_of_pieces (Val := Elt F) v.view f G _ ?_ y ?_
  · intro p hp x
    obtain ⟨m, hm, rfl⟩ := (glist_mem c xv WS _ _ _).mp hp
    have x0 : (x 0).val = 0 := by have : (x 0).val < 1 := (x 0).isLt; omega
    have x1 : (x 1).val < 256 := (x 1).isLt
    have x2 : (x 2).val < 128 := (x 2).isLt
    have e0 : ((gpiece (ggroup c xv WS m) m (by omega)).1.emb x 0).val = m := by
      show m + 1 * (x 0).val = _; omega
    have e1 : ((gpiece (ggroup c xv WS m) m (by omega)).1.emb x 1).val = (x 1).val := by
      show 0 + 1 * (x 1).val = _; omega
    have e2 : ((gpiece (ggroup c xv WS m) m (by omega)).1.emb x 2).val = (x 2).val := by
      show 0 + 1 * (x 2).val = _; omega
    dsimp only [G]
    simp only [e0, e1, e2]
    exact gpiece_apply _ _ _ x _ _
  · refine ⟨_, (glist_mem c xv WS _ _ _).mpr ⟨(y 0).val, by omega, rfl⟩, ?_⟩
    have y2 : (y 2).val < 128 := (y 2).isLt
    refine (Rect.mem_set_unit (inb := g_inb _ (by omega))).mpr ?_
    intro a
    match a with
    | ⟨0, _⟩ => show (y 0).val ≤ (y 0).val ∧ (y 0).val < (y 0).val + 1; omega
    | ⟨1, _⟩ => show 0 ≤ (y 1).val ∧ (y 1).val < 0 + 256; omega
    | ⟨2, _⟩ => show 0 ≤ (y 2).val ∧ (y 2).val < 0 + 128; omega

/-- The copy of a slot of the first result lands its block of the array. -/
theorem q_land (s : Fin 2) (b : Fin 64) (XA : Cn F xM c) (WS : Cn F wB c) (Q0 : Cn F qM c) (fq : Cn F qB c)
    (xv : FVec F S256x2048 .bf16) (hx : xv = xspec c XA b) :
    ((qblk b).view.loc (c : Thread nD τ) ↦[(qblk b).view.set]{fullShare} (qblk b).view.writes (Elt F) Q0
        [⟨Rect.whole S24x1x16x16x128, ReadAs.same.apply ((qslot s).view.read (Elt F) ((qslot s).view.writes (Elt F) fq (qlist c xv WS 384 le_rfl)))⟩] : sProp 𝕄)
      = qh c (Q1 c XA WS) b := by
  subst hx
  refine land c (qblk b) Q0 (Q1 c XA WS) _ fun y => ?_
  have hb := b.isLt
  have a0 : (y 0).val < 24 := (y 0).isLt
  have a1 : (y 1).val < 1 := (y 1).isLt
  have a2 : (y 2).val < 16 := (y 2).isLt
  have a3 : (y 3).val < 16 := (y 3).isLt
  have a4 : (y 4).val < 128 := (y 4).isLt
  refine (q_slot c (qslot s) fq (xspec c XA b) WS y (by omega) (by omega)).trans ?_
  obtain ⟨i, hi⟩ : ∃ i : S24x4x16x256x128.Idx, i = (qblk b).view.emb y := ⟨_, rfl⟩
  have e : (qblk b).view.read (Elt F) (Q1 c XA WS) y = Q1 c XA WS i := by subst hi; rfl
  rw [e]
  have e0 : (i 0).val = (y 0).val := by subst hi; show 0 + 1 * (y 0).val = _; omega
  have e1 : (i 1).val = b.val / 16 := by subst hi; show b.val / 16 + 1 * (y 1).val = _; omega
  have e2 : (i 2).val = (y 2).val := by subst hi; show 0 + 1 * (y 2).val = _; omega
  have e3 : (i 3).val = 16 * (b.val % 16) + (y 3).val := by subst hi; show 16 * (b.val % 16) + 1 * (y 3).val = _; omega
  have e4 : (i 4).val = (y 4).val := by subst hi; show 0 + 1 * (y 4).val = _; omega
  unfold Q1
  dsimp only
  simp only [e0, e1, e2, e3, e4]
  congr 2
  · congr 1
    exact Fin.ext (by show b.val = 16 * (b.val / 16) + (16 * (b.val % 16) + (y 3).val) / 16; omega)
  · exact Fin.ext (by show 16 * (y 2).val + (y 3).val = 16 * (y 2).val + (16 * (b.val % 16) + (y 3).val) % 16; omega)

/-- The copy of a slot of the second result lands its block of the array. -/
theorem g_land (s : Fin 2) (b : Fin 64) (XA : Cn F xM c) (WS : Cn F wB c) (G0 : Cn F gM c) (fg : Cn F gB c)
    (xv : FVec F S256x2048 .bf16) (hx : xv = xspec c XA b) :
    ((gblk b).view.loc (c : Thread nD τ) ↦[(gblk b).view.set]{fullShare} (gblk b).view.writes (Elt F) G0
        [⟨Rect.whole S16x256x128, ReadAs.same.apply ((gslot s).view.read (Elt F) ((gslot s).view.writes (Elt F) fg (glist c xv WS 16 le_rfl)))⟩] : sProp 𝕄)
      = gh c (G1 c XA WS) b := by
  subst hx
  refine land c (gblk b) G0 (G1 c XA WS) _ fun y => ?_
  have hb := b.isLt
  have a0 : (y 0).val < 16 := (y 0).isLt
  have a1 : (y 1).val < 256 := (y 1).isLt
  have a2 : (y 2).val < 128 := (y 2).isLt
  refine (g_slot c (gslot s) fg (xspec c XA b) WS y (by omega) (by omega)).trans ?_
  obtain ⟨i, hi⟩ : ∃ i : S16x16384x128.Idx, i = (gblk b).view.emb y := ⟨_, rfl⟩
  have e : (gblk b).view.read (Elt F) (G1 c XA WS) y = G1 c XA WS i := by subst hi; rfl
  rw [e]
  have e0 : (i 0).val = (y 0).val := by subst hi; show 0 + 1 * (y 0).val = _; omega
  have e1 : (i 1).val = 256 * b.val + (y 1).val := by subst hi; show 256 * b.val + 1 * (y 1).val = _; omega
  have e2 : (i 2).val = (y 2).val := by subst hi; show 0 + 1 * (y 2).val = _; omega
  unfold G1
  dsimp only
  simp only [e0, e1, e2]
  congr 2
  · congr 1
    exact Fin.ext (by show b.val = (256 * b.val + (y 1).val) / 256; omega)
  · exact Fin.ext (by show (y 1).val = (256 * b.val + (y 1).val) % 256; omega)

end Cert.Proof.InProj

end
-- ==== Proof.TripMid.lean ====
/-
  One trip with a block to fetch and a write to wait for.
-/
module

public import proofs.«01_k».proof.Proof.Land

@[expose] public section

noncomputable section

namespace Cert.Proof.InProj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UU nD τ) ℕ
variable (c : Dev nD)

set_option sl_exec.resultNames true
set_option maxHeartbeats 40000000 in
theorem tripMid (k : Fin k0_t1_loop.trips) (hk : k.val + 1 < 64) (h0 : 0 < k.val)
    (WS : Cn F wB c) (XA : Cn F xM c) (Q0 : Cn F qM c) (G0 : Cn F gM c) (fx f1 : Cn F xB c) (fq fs : Cn F qB c) (fg ft : Cn F gB c) (W)
    (hx : xval c (slk k.val) fx = xspec c XA (bkk k.val)) :
    iprop(own c wB WS ∗ owes (c : Thread nD τ) 0 W ∗ xfly c XA k.val fx ∗ xh c XA (bkk (k.val + 1)) ∗ xs c (slk (k.val + 1)) f1 ∗ zero c (xc (slk (k.val + 1))) ∗ qh c Q0 (bkk k.val) ∗ qs c (slk k.val) fq ∗ zero c (qc (slk k.val)) ∗ qfly c (Q1 c XA WS) (k.val - 1) fs ∗ gh c G0 (bkk k.val) ∗ gs c (slk k.val) fg ∗ zero c (gc (slk k.val)) ∗ gfly c (G1 c XA WS) (k.val - 1) ft)
      ⊢ wp frame (wpE (defs₀ (F := F)) 𝒱₀ (c : Thread nD τ) none) Set.univ (trip (F := F) k (wordsIn k.val))
        (fun r => iprop(⌜r = words (k.val + 1)⌝ ∗ own c wB WS ∗ (∃ W', owes (c : Thread nD τ) 0 W') ∗ xs c (slk k.val) fx ∗ xh c XA (bkk k.val) ∗ zero c (xc (slk k.val)) ∗ (∃ f, ⌜xval c (slk (k.val + 1)) f = xspec c XA (bkk (k.val + 1))⌝ ∗ xfly c XA (k.val + 1) f) ∗ (∃ f, qfly c (Q1 c XA WS) k.val f) ∗ qh c (Q1 c XA WS) (bkk (k.val - 1)) ∗ qs c (slk (k.val - 1)) fs ∗ zero c (qc (slk (k.val - 1))) ∗ (∃ f, gfly c (G1 c XA WS) k.val f) ∗ gh c (G1 c XA WS) (bkk (k.val - 1)) ∗ gs c (slk (k.val - 1)) ft ∗ zero c (gc (slk (k.val - 1))))) := by
  have hk64 : k.val < 64 := trip_lt k
  have g1 := cond1_all k (by omega)
  have g2 := cond2_all k
  have g6 := cond6_all k
  have g7 := cond7_all k
  have g9 := cond9_all k h0
  have g10 := cond10_all k h0
  have c1 := chk1_all k
  have c2 := chk2_all k
  have c3 := chk3_all k
  have c4 := chk4_all k
  dsimp only [trip, wordsIn, xfly, qfly, gfly]
  iintro ⟨HWS, HW, Hxf, Hxh, Hxs, Hxc, Hqb, Hqs, Hqc, Hqf, Hgb, Hgs, Hgc, Hgf⟩
  sl_unfold [k0_t1_body]
  sl_exec_parts
  sl_step
  have hv : tripMid.sl.v232_r0 c k fx c2 = xspec c XA (bkk k.val) := (load_slot c (slk k.val) fx _ (off9_eq k.val) _).trans hx
  have hq := q_land c (slk k.val) (bkk k.val) XA WS Q0 fq _ hv
  have hg := g_land c (slk k.val) (bkk k.val) XA WS G0 fg _ hv
  isplitr
  · ipureintro
    obtain ⟨e1, e2, e3, e4⟩ := (by decide +kernel : ∀ k : Fin k0_t1_loop.trips, k.val + 1 < 64 → 0 < k.val →
      tripMid.sl.v114_r0 k = wd (min (k.val + 1 + 1) 64) ∧ tripMid.sl.v96_r0 k = wd (k.val + 1) ∧ tripMid.sl.v2756_r0 k = wd (k.val + 1 - 1)
        ∧ tripMid.sl.v98_r0 k = wd ((k.val + 1) % 64)) k hk h0
    rw [e1, e2, e3, e4]
  rw [← hq, ← hg]
  isplitl [HWS]; · iexact HWS
  isplitl [HW]; · iexists _; iexact HW
  isplitl [Hxf_dst]; · iexact Hxf_dst
  isplitl [Hxf_src]; · iexact Hxf_src
  isplitl [Hxf]; · iexact Hxf
  isplitl [Hxc]
  · iexists _
    isplitr
    · ipureintro; exact x_land c _ _ XA f1
    · iexact Hxc
  isplitl [Hqc]; · iexists _; iexact Hqc
  isplitl [Hqf_dst]; · iexact Hqf_dst
  isplitl [Hqf_src]; · iexact Hqf_src
  isplitl [Hqf]; · iexact Hqf
  isplitl [Hgc]; · iexists _; iexact Hgc
  isplitl [Hgf_dst]; · iexact Hgf_dst
  isplitl [Hgf_src]; · iexact Hgf_src
  iexact Hgf

end Cert.Proof.InProj

end
-- ==== Proof.TripFirst.lean ====
/-
  The first trip: a block to fetch, no write to wait for.
-/
module

public import proofs.«01_k».proof.Proof.Land

@[expose] public section

noncomputable section

namespace Cert.Proof.InProj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UU nD τ) ℕ
variable (c : Dev nD)

set_option sl_exec.resultNames true
set_option maxHeartbeats 40000000 in
theorem tripFirst (k : Fin k0_t1_loop.trips) (hk : k.val + 1 < 64) (h0 : k.val = 0)
    (WS : Cn F wB c) (XA : Cn F xM c) (Q0 : Cn F qM c) (G0 : Cn F gM c) (fx f1 : Cn F xB c) (fq : Cn F qB c) (fg : Cn F gB c) (W)
    (hx : xval c (slk k.val) fx = xspec c XA (bkk k.val)) :
    iprop(own c wB WS ∗ owes (c : Thread nD τ) 0 W ∗ xfly c XA k.val fx ∗ xh c XA (bkk (k.val + 1)) ∗ xs c (slk (k.val + 1)) f1 ∗ zero c (xc (slk (k.val + 1))) ∗ qh c Q0 (bkk k.val) ∗ qs c (slk k.val) fq ∗ zero c (qc (slk k.val)) ∗ gh c G0 (bkk k.val) ∗ gs c (slk k.val) fg ∗ zero c (gc (slk k.val)))
      ⊢ wp frame (wpE (defs₀ (F := F)) 𝒱₀ (c : Thread nD τ) none) Set.univ (trip (F := F) k (wordsIn k.val))
        (fun r => iprop(⌜r = words (k.val + 1)⌝ ∗ own c wB WS ∗ (∃ W', owes (c : Thread nD τ) 0 W') ∗ xs c (slk k.val) fx ∗ xh c XA (bkk k.val) ∗ zero c (xc (slk k.val)) ∗ (∃ f, ⌜xval c (slk (k.val + 1)) f = xspec c XA (bkk (k.val + 1))⌝ ∗ xfly c XA (k.val + 1) f) ∗ (∃ f, qfly c (Q1 c XA WS) k.val f) ∗ (∃ f, gfly c (G1 c XA WS) k.val f))) := by
  have hk64 : k.val < 64 := trip_lt k
  have g1 := cond1_all k (by omega)
  have g2 := cond2_all k
  have g6 := cond6_all k
  have g7 := cond7_all k
  have g9 := cond9_zero k h0
  have g10 := cond10_zero k h0
  have c1 := chk1_all k
  have c2 := chk2_all k
  have c3 := chk3_all k
  have c4 := chk4_all k
  dsimp only [trip, wordsIn, xfly, qfly, gfly]
  iintro ⟨HWS, HW, Hxf, Hxh, Hxs, Hxc, Hqb, Hqs, Hqc, Hgb, Hgs, Hgc⟩
  sl_unfold [k0_t1_body]
  sl_exec_parts
  sl_step
  have hv : tripFirst.sl.v232_r0 c k fx c2 = xspec c XA (bkk k.val) := (load_slot c (slk k.val) fx _ (off9_eq k.val) _).trans hx
  have hq := q_land c (slk k.val) (bkk k.val) XA WS Q0 fq _ hv
  have hg := g_land c (slk k.val) (bkk k.val) XA WS G0 fg _ hv
  isplitr
  · ipureintro
    obtain ⟨e1, e2, e3, e4⟩ := (by decide +kernel : ∀ k : Fin k0_t1_loop.trips, k.val + 1 < 64 → k.val = 0 →
      tripFirst.sl.v114_r0 k = wd (min (k.val + 1 + 1) 64) ∧ tripFirst.sl.v96_r0 k = wd (k.val + 1) ∧ tripFirst.sl.v2756_r0 k = wd (k.val + 1 - 1)
        ∧ tripFirst.sl.v98_r0 k = wd ((k.val + 1) % 64)) k hk h0
    rw [e1, e2, e3, e4]
  rw [← hq, ← hg]
  isplitl [HWS]; · iexact HWS
  isplitl [HW]; · iexists _; iexact HW
  isplitl [Hxf_dst]; · iexact Hxf_dst
  isplitl [Hxf_src]; · iexact Hxf_src
  isplitl [Hxf]; · iexact Hxf
  isplitl [Hxc]
  · iexists _
    isplitr
    · ipureintro; exact x_land c _ _ XA f1
    · iexact Hxc
  isplitl [Hqc]; · iexists _; iexact Hqc
  iexists _; iexact Hgc

end Cert.Proof.InProj

end
-- ==== Proof.TripLast.lean ====
/-
  The last trip: no block to fetch, a write to wait for.
-/
module

public import proofs.«01_k».proof.Proof.Land

@[expose] public section

noncomputable section

namespace Cert.Proof.InProj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UU nD τ) ℕ
variable (c : Dev nD)

set_option sl_exec.resultNames true
set_option maxHeartbeats 40000000 in
theorem tripLast (k : Fin k0_t1_loop.trips) (hk : k.val = 63) (h0 : 0 < k.val)
    (WS : Cn F wB c) (XA : Cn F xM c) (Q0 : Cn F qM c) (G0 : Cn F gM c) (fx : Cn F xB c) (fq fs : Cn F qB c) (fg ft : Cn F gB c) (W)
    (hx : xval c (slk k.val) fx = xspec c XA (bkk k.val)) :
    iprop(own c wB WS ∗ owes (c : Thread nD τ) 0 W ∗ xfly c XA k.val fx ∗ qh c Q0 (bkk k.val) ∗ qs c (slk k.val) fq ∗ zero c (qc (slk k.val)) ∗ qfly c (Q1 c XA WS) (k.val - 1) fs ∗ gh c G0 (bkk k.val) ∗ gs c (slk k.val) fg ∗ zero c (gc (slk k.val)) ∗ gfly c (G1 c XA WS) (k.val - 1) ft)
      ⊢ wp frame (wpE (defs₀ (F := F)) 𝒱₀ (c : Thread nD τ) none) Set.univ (trip (F := F) k (wordsIn k.val))
        (fun r => iprop(⌜r = words (k.val + 1)⌝ ∗ own c wB WS ∗ (∃ W', owes (c : Thread nD τ) 0 W') ∗ xs c (slk k.val) fx ∗ xh c XA (bkk k.val) ∗ zero c (xc (slk k.val)) ∗ (∃ f, qfly c (Q1 c XA WS) k.val f) ∗ qh c (Q1 c XA WS) (bkk (k.val - 1)) ∗ qs c (slk (k.val - 1)) fs ∗ zero c (qc (slk (k.val - 1))) ∗ (∃ f, gfly c (G1 c XA WS) k.val f) ∗ gh c (G1 c XA WS) (bkk (k.val - 1)) ∗ gs c (slk (k.val - 1)) ft ∗ zero c (gc (slk (k.val - 1))))) := by
  have hk64 : k.val < 64 := trip_lt k
  have g1 := cond1_last k hk
  have g2 := cond2_all k
  have g6 := cond6_all k
  have g7 := cond7_all k
  have g9 := cond9_all k h0
  have g10 := cond10_all k h0
  have c1 := chk1_all k
  have c2 := chk2_all k
  have c3 := chk3_all k
  have c4 := chk4_all k
  dsimp only [trip, wordsIn, xfly, qfly, gfly]
  iintro ⟨HWS, HW, Hxf, Hqb, Hqs, Hqc, Hqf, Hgb, Hgs, Hgc, Hgf⟩
  sl_unfold [k0_t1_body]
  sl_exec_parts
  sl_step
  have hv : tripLast.sl.v232_r0 c k fx c2 = xspec c XA (bkk k.val) := (load_slot c (slk k.val) fx _ (off9_eq k.val) _).trans hx
  have hq := q_land c (slk k.val) (bkk k.val) XA WS Q0 fq _ hv
  have hg := g_land c (slk k.val) (bkk k.val) XA WS G0 fg _ hv
  isplitr
  · ipureintro
    obtain ⟨e1, e2, e3, e4⟩ := (by decide +kernel : ∀ k : Fin k0_t1_loop.trips, k.val = 63 → 0 < k.val →
      tripLast.sl.v114_r0 k = wd (min (k.val + 1 + 1) 64) ∧ tripLast.sl.v96_r0 k = wd (k.val + 1) ∧ tripLast.sl.v2756_r0 k = wd (k.val + 1 - 1)
        ∧ tripLast.sl.v98_r0 k = wd ((k.val + 1) % 64)) k hk h0
    rw [e1, e2, e3, e4]
  rw [← hq, ← hg]
  isplitl [HWS]; · iexact HWS
  isplitl [HW]; · iexists _; iexact HW
  isplitl [Hxf_dst]; · iexact Hxf_dst
  isplitl [Hxf_src]; · iexact Hxf_src
  isplitl [Hxf]; · iexact Hxf
  isplitl [Hqc]; · iexists _; iexact Hqc
  isplitl [Hqf_dst]; · iexact Hqf_dst
  isplitl [Hqf_src]; · iexact Hqf_src
  isplitl [Hqf]; · iexact Hqf
  isplitl [Hgc]; · iexists _; iexact Hgc
  isplitl [Hgf_dst]; · iexact Hgf_dst
  isplitl [Hgf_src]; · iexact Hgf_src
  iexact Hgf

end Cert.Proof.InProj

end
-- ==== Proof.Loop.lean ====
/-
  The pipeline's loop by its invariant: before trip `k` block `k` is on its way in and block `k - 1` on its way out,
  the blocks before it are written and the blocks from it on are as they were.
-/
module

public import proofs.«01_k».proof.Proof.TripMid
public import proofs.«01_k».proof.Proof.TripFirst
public import proofs.«01_k».proof.Proof.TripLast

@[expose] public section

noncomputable section

namespace Cert.Proof.InProj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UU nD τ) ℕ
variable (c : Dev nD)

/-! ## Which blocks are where -/

/-- The blocks of the activations at home before trip `k`: all but block `k`. -/
def others (k : ℕ) : Finset (Fin 64) := Finset.univ.filter fun b => b.val ≠ k
/-- The blocks at home in the midst of trip `k`: all but `k` and `k + 1`. -/
def others2 (k : ℕ) : Finset (Fin 64) := Finset.univ.filter fun b => b.val ≠ k ∧ b.val ≠ k + 1
/-- The blocks of a result not yet written before trip `k`. -/
def ahead (k : ℕ) : Finset (Fin 64) := Finset.univ.filter fun b => k ≤ b.val
/-- The blocks of a result written and home before trip `k`. -/
def behind (k : ℕ) : Finset (Fin 64) := Finset.univ.filter fun b => b.val + 1 < k

theorem bkk_val (k : ℕ) (h : k < 64) : (bkk k).val = k := Ring.bk_val h

theorem others_split (P : Fin 64 → sProp 𝕄) (k : ℕ) (h : k + 1 < 64) : bigSep (others k) P = iprop(P (bkk (k + 1)) ∗ bigSep (others2 k) P) := by
  have e : others k = insert (bkk (k + 1)) (others2 k) := by
    ext b; simp only [others, others2, Finset.mem_insert, Finset.mem_filter, Finset.mem_univ, true_and, Fin.ext_iff, bkk_val _ h]; omega
  have n : bkk (k + 1) ∉ others2 k := by simp only [others2, Finset.mem_filter, bkk_val _ h]; omega
  rw [e, bigSep_insert n]; rfl
theorem others_close (P : Fin 64 → sProp 𝕄) (k : ℕ) (h : k < 64) : bigSep (others (k + 1)) P = iprop(P (bkk k) ∗ bigSep (others2 k) P) := by
  have e : others (k + 1) = insert (bkk k) (others2 k) := by
    ext b; simp only [others, others2, Finset.mem_insert, Finset.mem_filter, Finset.mem_univ, true_and, Fin.ext_iff, bkk_val _ h]; omega
  have n : bkk k ∉ others2 k := by simp only [others2, Finset.mem_filter, bkk_val _ h]; omega
  rw [e, bigSep_insert n]; rfl
theorem others_last (k : ℕ) (h : k = 63) : others2 k = others k := by
  ext b; have := b.isLt; simp only [others, others2, Finset.mem_filter, Finset.mem_univ, true_and]; omega
theorem ahead_split (P : Fin 64 → sProp 𝕄) (k : ℕ) (h : k < 64) : bigSep (ahead k) P = iprop(P (bkk k) ∗ bigSep (ahead (k + 1)) P) := by
  have e : ahead k = insert (bkk k) (ahead (k + 1)) := by
    ext b; simp only [ahead, Finset.mem_insert, Finset.mem_filter, Finset.mem_univ, true_and, Fin.ext_iff, bkk_val _ h]; omega
  have n : bkk k ∉ ahead (k + 1) := by simp only [ahead, Finset.mem_filter, bkk_val _ h]; omega
  rw [e, bigSep_insert n]; rfl
theorem behind_close (P : Fin 64 → sProp 𝕄) (k : ℕ) (h0 : 0 < k) (h : k < 65) : bigSep (behind (k + 1)) P = iprop(P (bkk (k - 1)) ∗ bigSep (behind k) P) := by
  have h' : k - 1 < 64 := by omega
  have e : behind (k + 1) = insert (bkk (k - 1)) (behind k) := by
    ext b; simp only [behind, Finset.mem_insert, Finset.mem_filter, Finset.mem_univ, true_and, Fin.ext_iff, bkk_val _ h']; omega
  have n : bkk (k - 1) ∉ behind k := by simp only [behind, Finset.mem_filter, bkk_val _ h']; omega
  rw [e, bigSep_insert n]; rfl
theorem behind_one : behind 1 = behind 0 := by ext b; simp only [behind, Finset.mem_filter]; omega

theorem slk_two (k : ℕ) : slk (k + 1 + 1) = slk k := by
  refine Fin.ext ?_; show (k + 1 + 1) % 2 = k % 2; omega
theorem slk_pred (k : ℕ) (h : 0 < k) : slk (k - 1) = slk (k + 1) := by
  refine Fin.ext ?_; show (k - 1) % 2 = (k + 1) % 2; omega

/-! ## The invariant -/

variable (XA : Cn F xM c) (Q0 : Cn F qM c) (G0 : Cn F gM c)

/-- Block `k` on its way in, with the value it brings; past the last trip its slot is free. -/
def xNow (k : ℕ) : sProp 𝕄 :=
  if k < 64 then iprop(∃ f, ⌜xval c (slk k) f = xspec c XA (bkk k)⌝ ∗ xfly c XA k f) else iprop((∃ f, xs c (slk k) f) ∗ zero c (xc (slk k)))
/-- The other slot: block `k - 1` of a result on its way out; before the first trip it is free. -/
def qPrev (WS : Cn F wB c) (k : ℕ) : sProp 𝕄 :=
  if 0 < k then iprop(∃ f, qfly c (Q1 c XA WS) (k - 1) f) else iprop((∃ f, qs c (slk (k + 1)) f) ∗ zero c (qc (slk (k + 1))))
def gPrev (WS : Cn F wB c) (k : ℕ) : sProp 𝕄 :=
  if 0 < k then iprop(∃ f, gfly c (G1 c XA WS) (k - 1) f) else iprop((∃ f, gs c (slk (k + 1)) f) ∗ zero c (gc (slk (k + 1))))

/-- The resources before trip `k`. -/
def Before (WS : Cn F wB c) (k : ℕ) : sProp 𝕄 :=
  iprop(own c wB WS ∗ (∃ W, owes (c : Thread nD τ) 0 W)
    ∗ bigSep (others k) (xh c XA) ∗ xNow c XA k ∗ (∃ f, xs c (slk (k + 1)) f) ∗ zero c (xc (slk (k + 1)))
    ∗ bigSep (ahead k) (qh c Q0) ∗ bigSep (behind k) (qh c (Q1 c XA WS)) ∗ (∃ f, qs c (slk k) f) ∗ zero c (qc (slk k)) ∗ qPrev c XA WS k
    ∗ bigSep (ahead k) (gh c G0) ∗ bigSep (behind k) (gh c (G1 c XA WS)) ∗ (∃ f, gs c (slk k) f) ∗ zero c (gc (slk k)) ∗ gPrev c XA WS k)

theorem step_first (WS : Cn F wB c) (k : Fin k0_t1_loop.trips) (h0 : k.val = 0) :
    Before c XA Q0 G0 WS k.val ⊢ wp frame (wpE (defs₀ (F := F)) 𝒱₀ (c : Thread nD τ) none) Set.univ (trip (F := F) k (wordsIn k.val))
      (fun r => iprop(⌜r = words (k.val + 1)⌝ ∗ Before c XA Q0 G0 WS (k.val + 1))) := by
  have hk : k.val + 1 < 64 := by omega
  have eB : behind (k.val + 1) = behind k.val := by rw [h0]; exact behind_one
  unfold Before xNow qPrev gPrev
  rw [if_pos (show k.val < 64 by omega), if_neg (show ¬ 0 < k.val by omega), if_neg (show ¬ 0 < k.val by omega),
    others_split _ _ hk, ahead_split _ _ (show k.val < 64 by omega), ahead_split _ _ (show k.val < 64 by omega)]
  iintro ⟨HWS, ⟨%W, HW⟩, ⟨Hxh, Hxo⟩, ⟨%fx, %hx, Hxf⟩, ⟨%f1, Hxs⟩, Hxc, ⟨Hqb, Hqa⟩, Hqd, ⟨%fq, Hqs⟩, Hqc, ⟨⟨%fq', Hqs'⟩, Hqc'⟩, ⟨Hgb, Hga⟩, Hgd, ⟨%fg, Hgs⟩, Hgc, ⟨⟨%fg', Hgs'⟩, Hgc'⟩⟩
  iapply (wp_wand_r Idealize.ShloMosaic.frame (wpE (defs₀ (F := F)) 𝒱₀ (c : Thread nD τ) none) Set.univ)
  isplitl [HWS HW Hxh Hxf Hxs Hxc Hqb Hqs Hqc Hgb Hgs Hgc]
  · iapply (tripFirst c k hk h0 WS XA Q0 G0 fx f1 fq fg W hx)
    isplitl [HWS]; · iexact HWS
    isplitl [HW]; · iexact HW
    isplitl [Hxf]; · iexact Hxf
    isplitl [Hxh]; · iexact Hxh
    isplitl [Hxs]; · iexact Hxs
    isplitl [Hxc]; · iexact Hxc
    isplitl [Hqb]; · iexact Hqb
    isplitl [Hqs]; · iexact Hqs
    isplitl [Hqc]; · iexact Hqc
    isplitl [Hgb]; · iexact Hgb
    isplitl [Hgs]; · iexact Hgs
    iexact Hgc
  iintro %r ⟨%hr, HWS, HW, Hxs, Hxh, Hxc, Hxf, Hqf, Hgf⟩
  isplitr; · ipureintro; exact hr
  rw [if_pos hk, if_pos (Nat.succ_pos _), if_pos (Nat.succ_pos _), others_close _ _ (show k.val < 64 by omega), eB, slk_two, Nat.add_sub_cancel]
  isplitl [HWS]; · iexact HWS
  isplitl [HW]; · iexact HW
  isplitl [Hxh Hxo]
  · isplitl [Hxh]; · iexact Hxh
    iexact Hxo
  isplitl [Hxf]; · iexact Hxf
  isplitl [Hxs]; · iexists _; iexact Hxs
  isplitl [Hxc]; · iexact Hxc
  isplitl [Hqa]; · iexact Hqa
  isplitl [Hqd]; · iexact Hqd
  isplitl [Hqs']; · iexists _; iexact Hqs'
  isplitl [Hqc']; · iexact Hqc'
  isplitl [Hqf]; · iexact Hqf
  isplitl [Hga]; · iexact Hga
  isplitl [Hgd]; · iexact Hgd
  isplitl [Hgs']; · iexists _; iexact Hgs'
  isplitl [Hgc']; · iexact Hgc'
  iexact Hgf

theorem step_mid (WS : Cn F wB c) (k : Fin k0_t1_loop.trips) (hk : k.val + 1 < 64) (h0 : 0 < k.val) :
    Before c XA Q0 G0 WS k.val ⊢ wp frame (wpE (defs₀ (F := F)) 𝒱₀ (c : Thread nD τ) none) Set.univ (trip (F := F) k (wordsIn k.val))
      (fun r => iprop(⌜r = words (k.val + 1)⌝ ∗ Before c XA Q0 G0 WS (k.val + 1))) := by
  unfold Before xNow qPrev gPrev
  rw [if_pos (show k.val < 64 by omega), if_pos h0, if_pos h0,
    others_split _ _ hk, ahead_split _ _ (show k.val < 64 by omega), ahead_split _ _ (show k.val < 64 by omega)]
  iintro ⟨HWS, ⟨%W, HW⟩, ⟨Hxh, Hxo⟩, ⟨%fx, %hx, Hxf⟩, ⟨%f1, Hxs⟩, Hxc, ⟨Hqb, Hqa⟩, Hqd, ⟨%fq, Hqs⟩, Hqc, ⟨%fs, Hqf⟩, ⟨Hgb, Hga⟩, Hgd, ⟨%fg, Hgs⟩, Hgc, ⟨%ft, Hgf⟩⟩
  iapply (wp_wand_r Idealize.ShloMosaic.frame (wpE (defs₀ (F := F)) 𝒱₀ (c : Thread nD τ) none) Set.univ)
  isplitl [HWS HW Hxh Hxf Hxs Hxc Hqb Hqs Hqc Hqf Hgb Hgs Hgc Hgf]
  · iapply (tripMid c k hk h0 WS XA Q0 G0 fx f1 fq fs fg ft W hx)
    isplitl [HWS]; · iexact HWS
    isplitl [HW]; · iexact HW
    isplitl [Hxf]; · iexact Hxf
    isplitl [Hxh]; · iexact Hxh
    isplitl [Hxs]; · iexact Hxs
    isplitl [Hxc]; · iexact Hxc
    isplitl [Hqb]; · iexact Hqb
    isplitl [Hqs]; · iexact Hqs
    isplitl [Hqc]; · iexact Hqc
    isplitl [Hqf]; · iexact Hqf
    isplitl [Hgb]; · iexact Hgb
    isplitl [Hgs]; · iexact Hgs
    isplitl [Hgc]; · iexact Hgc
    iexact Hgf
  iintro %r ⟨%hr, HWS, HW, Hxs, Hxh, Hxc, Hxf, Hqf, Hqb, Hqs, Hqc, Hgf, Hgb, Hgs, Hgc⟩
  isplitr; · ipureintro; exact hr
  rw [if_pos hk, if_pos (Nat.succ_pos _), if_pos (Nat.succ_pos _), others_close _ _ (show k.val < 64 by omega),
    behind_close _ _ h0 (by omega), behind_close _ _ h0 (by omega), slk_two, Nat.add_sub_cancel, ← slk_pred _ h0]
  isplitl [HWS]; · iexact HWS
  isplitl [HW]; · iexact HW
  isplitl [Hxh Hxo]
  · isplitl [Hxh]; · iexact Hxh
    iexact Hxo
  isplitl [Hxf]; · rw [slk_pred _ h0]; iexact Hxf
  isplitl [Hxs]; · iexists _; iexact Hxs
  isplitl [Hxc]; · iexact Hxc
  isplitl [Hqa]; · iexact Hqa
  isplitl [Hqd Hqb]
  · isplitl [Hqb]; · iexact Hqb
    iexact Hqd
  isplitl [Hqs]; · iexists _; iexact Hqs
  isplitl [Hqc]; · iexact Hqc
  isplitl [Hqf]; · iexact Hqf
  isplitl [Hga]; · iexact Hga
  isplitl [Hgd Hgb]
  · isplitl [Hgb]; · iexact Hgb
    iexact Hgd
  isplitl [Hgs]; · iexists _; iexact Hgs
  isplitl [Hgc]; · iexact Hgc
  iexact Hgf

theorem step_last (WS : Cn F wB c) (k : Fin k0_t1_loop.trips) (hk : k.val = 63) :
    Before c XA Q0 G0 WS k.val ⊢ wp frame (wpE (defs₀ (F := F)) 𝒱₀ (c : Thread nD τ) none) Set.univ (trip (F := F) k (wordsIn k.val))
      (fun r => iprop(⌜r = words (k.val + 1)⌝ ∗ Before c XA Q0 G0 WS (k.val + 1))) := by
  have h0 : 0 < k.val := by omega
  unfold Before xNow qPrev gPrev
  rw [if_pos (show k.val < 64 by omega), if_pos h0, if_pos h0,
    ahead_split _ _ (show k.val < 64 by omega), ahead_split _ _ (show k.val < 64 by omega)]
  iintro ⟨HWS, ⟨%W, HW⟩, Hxo, ⟨%fx, %hx, Hxf⟩, ⟨%f1, Hxs'⟩, Hxc', ⟨Hqb, Hqa⟩, Hqd, ⟨%fq, Hqs⟩, Hqc, ⟨%fs, Hqf⟩, ⟨Hgb, Hga⟩, Hgd, ⟨%fg, Hgs⟩, Hgc, ⟨%ft, Hgf⟩⟩
  iapply (wp_wand_r Idealize.ShloMosaic.frame (wpE (defs₀ (F := F)) 𝒱₀ (c : Thread nD τ) none) Set.univ)
  isplitl [HWS HW Hxf Hqb Hqs Hqc Hqf Hgb Hgs Hgc Hgf]
  · iapply (tripLast c k hk h0 WS XA Q0 G0 fx fq fs fg ft W hx)
    isplitl [HWS]; · iexact HWS
    isplitl [HW]; · iexact HW
    isplitl [Hxf]; · iexact Hxf
    isplitl [Hqb]; · iexact Hqb
    isplitl [Hqs]; · iexact Hqs
    isplitl [Hqc]; · iexact Hqc
    isplitl [Hqf]; · iexact Hqf
    isplitl [Hgb]; · iexact Hgb
    isplitl [Hgs]; · iexact Hgs
    isplitl [Hgc]; · iexact Hgc
    iexact Hgf
  iintro %r ⟨%hr, HWS, HW, Hxs, Hxh, Hxc, Hqf, Hqb, Hqs, Hqc, Hgf, Hgb, Hgs, Hgc⟩
  isplitr; · ipureintro; exact hr
  rw [if_neg (show ¬ k.val + 1 < 64 by omega), if_pos (Nat.succ_pos _), if_pos (Nat.succ_pos _), others_close _ _ (show k.val < 64 by omega), others_last _ hk,
    behind_close _ _ h0 (by omega), behind_close _ _ h0 (by omega), slk_two, Nat.add_sub_cancel, ← slk_pred _ h0]
  isplitl [HWS]; · iexact HWS
  isplitl [HW]; · iexact HW
  isplitl [Hxh Hxo]
  · isplitl [Hxh]; · iexact Hxh
    iexact Hxo
  isplitl [Hxs' Hxc']
  · rw [slk_pred _ h0]
    isplitl [Hxs']; · iexists _; iexact Hxs'
    iexact Hxc'
  isplitl [Hxs]; · iexists _; iexact Hxs
  isplitl [Hxc]; · iexact Hxc
  isplitl [Hqa]; · iexact Hqa
  isplitl [Hqd Hqb]
  · isplitl [Hqb]; · iexact Hqb
    iexact Hqd
  isplitl [Hqs]; · iexists _; iexact Hqs
  isplitl [Hqc]; · iexact Hqc
  isplitl [Hqf]; · iexact Hqf
  isplitl [Hga]; · iexact Hga
  isplitl [Hgd Hgb]
  · isplitl [Hgb]; · iexact Hgb
    iexact Hgd
  isplitl [Hgs]; · iexists _; iexact Hgs
  isplitl [Hgc]; · iexact Hgc
  iexact Hgf

/-- One trip, whichever it is. -/
theorem step_any (WS : Cn F wB c) (k : Fin k0_t1_loop.trips) :
    Before c XA Q0 G0 WS k.val ⊢ wp frame (wpE (defs₀ (F := F)) 𝒱₀ (c : Thread nD τ) none) Set.univ (trip (F := F) k (wordsIn k.val))
      (fun r => iprop(⌜r = words (k.val + 1)⌝ ∗ Before c XA Q0 G0 WS (k.val + 1))) := by
  have hk := trip_lt k
  rcases Nat.eq_zero_or_pos k.val with h0 | h0
  · exact step_first c XA Q0 G0 WS k h0
  rcases Nat.lt_or_ge (k.val + 1) 64 with h | h
  · exact step_mid c XA Q0 G0 WS k h h0
  · exact step_last c XA Q0 G0 WS k (by omega)

/-- The loop's invariant. -/
abbrev inv (WS : Cn F wB c) (k : ℕ) (acc : Words) : sProp 𝕄 := iprop(⌜acc = words k⌝ ∗ Before c XA Q0 G0 WS k)

theorem inv_step (WS : Cn F wB c) (k : Fin k0_t1_loop.trips) (acc : Words) :
    inv c XA Q0 G0 WS k.val acc ⊢ wp frame (wpE (defs₀ (F := F)) 𝒱₀ (c : Thread nD τ) none) Set.univ (trip (F := F) k acc)
      (inv c XA Q0 G0 WS (k.val + 1)) := by
  iintro ⟨%hacc, H⟩
  rw [hacc, words_in _ (trip_lt k)]
  iapply (step_any c XA Q0 G0 WS k)
  iexact H

set_option warn.classDefReducibility false in
/-- The loop's invariant as the run's class wants it. -/
@[sl_loop] def loopInv (WS : Cn F wB c) (init : Words) :
    LoopInvTy_k0_t1 (F := F) Unit ℕ (UU nD τ) ℕ 𝒱₀ c none Set.univ xM (Memref.isWhole_whole _) wM (Memref.isWhole_whole _) qM (Memref.isWhole_whole _) gM (Memref.isWhole_whole _)
      wB (Memref.isWhole_whole _) cc0_scratch1 xB (Memref.isWhole_whole _) cc0_scoped1 qB (Memref.isWhole_whole _) cc0_scoped3 gB (Memref.isWhole_whole _) cc0_scoped5 init where
  inv k acc := inv c XA Q0 G0 WS k acc
  step k acc := inv_step c XA Q0 G0 WS k acc

end Cert.Proof.InProj

end
-- ==== Proof.Body.lean ====
/-
  The kernel's body: the weights fetched, the first block's fetch issued, the loop by its invariant, the last writes
  awaited.
-/
module

public import proofs.«01_k».proof.Proof.Loop

@[expose] public section

noncomputable section

namespace Cert.Proof.InProj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UU nD τ) ℕ
variable (c : Dev nD)

variable (XA : Cn F xM c) (WM : Cn F wM c) (Q0 : Cn F qM c) (G0 : Cn F gM c)

/-- The weights as the kernel's buffer holds them: the array's own. -/
def wIn : Cn F wB c := fun i => WM i

abbrev bodyG : Prog (TpuEff nD τ sig (Elt F) Λ₀ .tc) PUnit :=
  cc0_in_proj (F := F) xM (Memref.isWhole_whole _) wM (Memref.isWhole_whole _) qM (Memref.isWhole_whole _) gM (Memref.isWhole_whole _)
    wB (Memref.isWhole_whole _) cc0_scratch1 xB (Memref.isWhole_whole _) cc0_scoped1 qB (Memref.isWhole_whole _) cc0_scoped3 gB (Memref.isWhole_whole _) cc0_scoped5

/-- The buffers and the semaphores, whatever they hold, the semaphores at zero. -/
abbrev scratch : sProp 𝕄 :=
  iprop((∃ f, own c wB f) ∗ zero c cc0_scratch1 ∗ (∃ f, xs c (slk 0) f) ∗ (∃ f, xs c (slk (0 + 1)) f) ∗ zero c (xc (slk 0)) ∗ zero c (xc (slk (0 + 1)))
    ∗ (∃ f, qs c (slk 0) f) ∗ (∃ f, qs c (slk (0 + 1)) f) ∗ zero c (qc (slk 0)) ∗ zero c (qc (slk (0 + 1)))
    ∗ (∃ f, gs c (slk 0) f) ∗ (∃ f, gs c (slk (0 + 1)) f) ∗ zero c (gc (slk 0)) ∗ zero c (gc (slk (0 + 1))))
/-- The four arrays by their blocks. -/
abbrev arrays (Q : Cn F qM c) (G : Cn F gM c) : sProp 𝕄 :=
  iprop(own c wM WM ∗ bigSep Finset.univ (xh c XA) ∗ bigSep Finset.univ (qh c Q) ∗ bigSep Finset.univ (gh c G))

theorem all_open (P : Fin 64 → sProp 𝕄) : bigSep Finset.univ P ⊢ iprop(P (bkk 0) ∗ bigSep (others 0) P) := by
  have e : (Finset.univ : Finset (Fin 64)) = insert (bkk 0) (others 0) := by
    ext b; simp only [others, Finset.mem_insert, Finset.mem_filter, Finset.mem_univ, true_and, true_iff, Fin.ext_iff, bkk_val 0 (by omega)]; exact Decidable.em _
  have n : bkk 0 ∉ others 0 := by simp only [others, Finset.mem_filter, bkk_val 0 (by omega)]; omega
  rw [e, bigSep_insert n]; exact .rfl
theorem ahead_zero : ahead 0 = Finset.univ := by ext b; simp [ahead]
theorem others_all : others 64 = Finset.univ := by ext b; have := b.isLt; simp only [others, Finset.mem_filter, Finset.mem_univ, true_and, iff_true]; omega
theorem behind_all : behind 65 = Finset.univ := by ext b; have := b.isLt; simp only [behind, Finset.mem_filter, Finset.mem_univ, true_and, iff_true]; omega

theorem behind_zero : behind 0 = ∅ := by ext b; simp [behind]

/-- The resources before the first trip, from the prologue's. -/
theorem before_zero (WS : Cn F wB c) :
    iprop(own c wB WS ∗ (∃ W, owes (c : Thread nD τ) 0 W) ∗ bigSep (others 0) (xh c XA)
        ∗ (∃ f, ⌜xval c (slk 0) f = xspec c XA (bkk 0)⌝ ∗ xfly c XA 0 f) ∗ (∃ f, xs c (slk (0 + 1)) f) ∗ zero c (xc (slk (0 + 1)))
        ∗ bigSep Finset.univ (qh c Q0) ∗ (∃ f, qs c (slk 0) f) ∗ (∃ f, qs c (slk (0 + 1)) f) ∗ zero c (qc (slk 0)) ∗ zero c (qc (slk (0 + 1)))
        ∗ bigSep Finset.univ (gh c G0) ∗ (∃ f, gs c (slk 0) f) ∗ (∃ f, gs c (slk (0 + 1)) f) ∗ zero c (gc (slk 0)) ∗ zero c (gc (slk (0 + 1))))
      ⊢ Before c XA Q0 G0 WS 0 := by
  unfold Before xNow qPrev gPrev
  rw [if_pos (show 0 < 64 by omega), if_neg (show ¬ 0 < 0 by omega), if_neg (show ¬ 0 < 0 by omega), ahead_zero, behind_zero, bigSep_empty, bigSep_empty]
  iintro ⟨HWS, HW, Hxo, Hxf, Hxs, Hxc, Hqa, Hqs, Hqs', Hqc, Hqc', Hga, Hgs, Hgs', Hgc, Hgc'⟩
  isplitl [HWS]; · iexact HWS
  isplitl [HW]; · iexact HW
  isplitl [Hxo]; · iexact Hxo
  isplitl [Hxf]; · iexact Hxf
  isplitl [Hxs]; · iexact Hxs
  isplitl [Hxc]; · iexact Hxc
  isplitl [Hqa]; · iexact Hqa
  isplitr; · iempintro
  isplitl [Hqs]; · iexact Hqs
  isplitl [Hqc]; · iexact Hqc
  isplitl [Hqs' Hqc']
  · isplitl [Hqs']; · iexact Hqs'
    iexact Hqc'
  isplitl [Hga]; · iexact Hga
  isplitr; · iempintro
  isplitl [Hgs]; · iexact Hgs
  isplitl [Hgc]; · iexact Hgc
  isplitl [Hgs']; · iexact Hgs'
  iexact Hgc'

/-- What is left after the last trip: everything home but the last block of each result, on its way out. -/
abbrev leftover (WS : Cn F wB c) : sProp 𝕄 :=
  iprop(own c wB WS ∗ (∃ W, owes (c : Thread nD τ) 0 W) ∗ bigSep Finset.univ (xh c XA)
        ∗ (∃ f, xs c (slk 64) f) ∗ zero c (xc (slk 64)) ∗ (∃ f, xs c (slk 65) f) ∗ zero c (xc (slk 65))
        ∗ bigSep (behind 64) (qh c (Q1 c XA WS)) ∗ (∃ f, qs c (slk 64) f) ∗ zero c (qc (slk 64)) ∗ (∃ f, qfly c (Q1 c XA WS) 63 f)
        ∗ bigSep (behind 64) (gh c (G1 c XA WS)) ∗ (∃ f, gs c (slk 64) f) ∗ zero c (gc (slk 64)) ∗ (∃ f, gfly c (G1 c XA WS) 63 f))
theorem ahead_all : ahead 64 = ∅ := by
  ext b; have := b.isLt; simp only [ahead, Finset.mem_filter, Finset.mem_univ, true_and, Finset.notMem_empty, iff_false]; omega
theorem before_end (WS : Cn F wB c) (n : ℕ) (hn : n = 64) : Before c XA Q0 G0 WS n ⊢ leftover c XA WS := by
  subst hn
  unfold Before xNow qPrev gPrev
  rw [if_neg (show ¬ 64 < 64 by omega), if_pos (show 0 < 64 by omega), if_pos (show 0 < 64 by omega), ahead_all, others_all]
  iintro ⟨HWS, HW, Hxo, ⟨Hxs', Hxc'⟩, Hxs, Hxc, -, Hqd, Hqs, Hqc, Hqf, -, Hgd, Hgs, Hgc, Hgf⟩
  isplitl [HWS]; · iexact HWS
  isplitl [HW]; · iexact HW
  isplitl [Hxo]; · iexact Hxo
  isplitl [Hxs']; · iexact Hxs'
  isplitl [Hxc']; · iexact Hxc'
  isplitl [Hxs]; · iexact Hxs
  isplitl [Hxc]; · iexact Hxc
  isplitl [Hqd]; · iexact Hqd
  isplitl [Hqs]; · iexact Hqs
  isplitl [Hqc]; · iexact Hqc
  isplitl [Hqf]; · iexact Hqf
  isplitl [Hgd]; · iexact Hgd
  isplitl [Hgs]; · iexact Hgs
  isplitl [Hgc]; · iexact Hgc
  iexact Hgf

-- the last waits' slots and blocks, as the words spell them
@[sl_canon] theorem qc24' (hh) : (cc0_scoped3.slice (Rect.unit (s := S2) (k0_off24 63#32) S1.size hh)).squeeze S_ squeezes_S1_S_ = qc (slk 63) := qc24 63 hh
@[sl_canon] theorem qb25' (hh hs) : qM.slice (Rect.unit (s := S24x4x16x256x128) (k0_off25 0#32) S24x1x16x16x128.size hh) hs = qblk (bkk 63) := qb25 hh hs
@[sl_canon] theorem qs26' (hh hs) : (qB.slice (Rect.unit (s := S2x24x1x16x16x128) (k0_off26 63#32) S1x24x1x16x16x128.size hh) hs).squeeze S24x1x16x16x128 squeezes_S1x24x1x16x16x128_S24x1x16x16x128 = qslot (slk 63) := qs26 63 hh hs
@[sl_canon] theorem gc27' (hh) : (cc0_scoped5.slice (Rect.unit (s := S2) (k0_off27 63#32) S1.size hh)).squeeze S_ squeezes_S1_S_ = gc (slk 63) := gc27 63 hh
@[sl_canon] theorem gb28' (hh hs) : gM.slice (Rect.unit (s := S16x16384x128) (k0_off28 0#32) S16x256x128.size hh) hs = gblk (bkk 63) := gb28 hh hs
@[sl_canon] theorem gs29' (hh hs) : (gB.slice (Rect.unit (s := S2x16x256x128) (k0_off29 63#32) S1x16x256x128.size hh) hs).squeeze S16x256x128 squeezes_S1x16x256x128_S16x256x128 = gslot (slk 63) := gs29 63 hh hs

/-- The fetched weights are the array's. -/
theorem w_fetched (w0 : Cn F wB c) (v : S2048x5120.Idx → Elt F .bf16) : wB.view.writes (Elt F) w0 [⟨Rect.whole S2048x5120, v⟩] = v :=
  (View.read_whole (Val := Elt F) cc0_scratch0 _).symm.trans (read_whole c wB w0 v)
theorem w_in (w0 : Cn F wB c) :
    wB.view.writes (Elt F) w0 [⟨Rect.whole S2048x5120, ReadAs.same.apply (wM.view.read (Elt F) WM)⟩] = wIn c WM :=
  (w_fetched c w0 _).trans rfl

/-- With its last block home a result is whole. -/
theorem all_close (P : Fin 64 → sProp 𝕄) : iprop(P (bkk 63) ∗ bigSep (behind 64) P) ⊢ bigSep Finset.univ P := by
  rw [← behind_all, behind_close P 64 (by omega) (by omega)]
theorem slk_64 : slk 64 = slk 0 := rfl
theorem slk_65 : slk 65 = slk (0 + 1) := rfl
theorem slk_63 : slk 63 = slk (0 + 1) := rfl

attribute [local irreducible] Before in
theorem bodyRun (W) (Q : PUnit → sProp 𝕄) :
    iprop((arrays c XA WM Q0 G0 ∗ scratch c ∗ owes (c : Thread nD τ) 0 W)
        ∗ (arrays c XA WM (Q1 c XA (wIn c WM)) (G1 c XA (wIn c WM)) ∗ scratch c ∗ (∃ W', owes (c : Thread nD τ) 0 W') -∗ Q ⟨⟩))
      ⊢ wp frame (wpE (defs₀ (F := F)) 𝒱₀ (c : Thread nD τ) none) Set.univ (bodyG (F := F)) Q := by
  iintro ⟨⟨⟨HWM, Hx, Hqa, Hga⟩, ⟨⟨%w0, HWS⟩, Hwc, ⟨%fx0, Hxs0⟩, ⟨%fx1, Hxs1⟩, Hxc0, Hxc1, ⟨%fq0, Hqs0⟩, ⟨%fq1, Hqs1⟩, Hqc0, Hqc1, ⟨%fg0, Hgs0⟩, ⟨%fg1, Hgs1⟩, Hgc0, Hgc1⟩, HW⟩, Hk⟩
  ihave Hx' := (all_open (xh c XA)) $$ Hx
  icases Hx' with ⟨Hxb, Hxo⟩
  dsimp only [bodyG]
  sl_exec_parts
  ihave HB := (before_zero c XA Q0 G0 _) $$ [HWS HW Hxo Hxc0 Hxs1 Hxc1 Hqa Hqs0 Hqc0 Hqs1 Hqc1 Hga Hgs0 Hgc0 Hgs1 Hgc1]
  · isplitl [HWS]; · iexact HWS
    isplitl [HW]; · iexists _; iexact HW
    isplitl [Hxo]; · iexact Hxo
    isplitl [Hxc0]
    · iexists _
      isplitr
      · ipureintro; exact x_land c _ _ XA fx0
      · iexact Hxc0
    isplitl [Hxs1]; · iexists _; iexact Hxs1
    isplitl [Hxc1]; · iexact Hxc1
    isplitl [Hqa]; · iexact Hqa
    isplitl [Hqs0]; · iexists _; iexact Hqs0
    isplitl [Hqs1]; · iexists _; iexact Hqs1
    isplitl [Hqc0]; · iexact Hqc0
    isplitl [Hqc1]; · iexact Hqc1
    isplitl [Hga]; · iexact Hga
    isplitl [Hgs0]; · iexists _; iexact Hgs0
    isplitl [Hgs1]; · iexists _; iexact Hgs1
    isplitl [Hgc0]; · iexact Hgc0
    iexact Hgc1
  have c7 := chk7_end
  have c6 := chk6_end
  have c5 := chk5_end
  sl_exec_parts
  ihave HE := (before_end c XA Q0 G0 _ _ trips_eq) $$ HB
  icases HE with ⟨HWS, ⟨%W', HW⟩, Hx, Hxs0, Hxc0, Hxs1, Hxc1, Hqd, Hqs0, Hqc0, ⟨%fq, Hqf⟩, Hgd, Hgs0, Hgc0, ⟨%fg, Hgf⟩⟩
  sl_exec_parts
  sl_step
  iapply Hk
  isplitl [HWM Hx Hqd Hqf_dst Hgd Hgf_dst]
  · isplitl [HWM]; · iexact HWM
    isplitl [Hx]; · iexact Hx
    isplitl [Hqd Hqf_dst]
    · rw [← w_in c WM wB.view.junk]
      iapply (all_close _)
      isplitl [Hqf_dst]; · iexact Hqf_dst
      iexact Hqd
    rw [← w_in c WM wB.view.junk]
    iapply (all_close _)
    isplitl [Hgf_dst]; · iexact Hgf_dst
    iexact Hgd
  rw [slk_64, slk_65, slk_63]
  isplitr [HW]
  · isplitl [HWS]; · iexists _; iexact HWS
    isplitl [Hwc]; · iexact Hwc
    isplitl [Hxs0]; · iexact Hxs0
    isplitl [Hxs1]; · iexact Hxs1
    isplitl [Hxc0]; · iexact Hxc0
    isplitl [Hxc1]; · iexact Hxc1
    isplitl [Hqs0]; · iexact Hqs0
    isplitl [Hqf_src]; · iexists _; iexact Hqf_src
    isplitl [Hqc0]; · iexact Hqc0
    isplitl [Hqf]; · iexact Hqf
    isplitl [Hgs0]; · iexact Hgs0
    isplitl [Hgf_src]; · iexists _; iexact Hgf_src
    isplitl [Hgc0]; · iexact Hgc0
    iexact Hgf
  iexists _; iexact HW

end Cert.Proof.InProj

end
-- ==== Proof.Launch.lean ====
/-
  The launch: the arrays by their blocks, the buffers by their slots, the run of the whole program to the values the
  loop leaves, the arguments unchanged and every semaphore at zero.
-/
module

public import proofs.«01_k».proof.Proof.Body
public import proofs.«01_k».proof.Proof.Gen.KernelIdeal.Frame

@[expose] public section

noncomputable section

namespace Cert.Proof.InProj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## The kernel's own semaphores -/

abbrev osem : Fin 7 → SemLoc sig :=
  ![.dma cc0_scratch1.sem, .dma (xc 0).sem, .dma (xc 1).sem, .dma (qc 0).sem, .dma (qc 1).sem, .dma (gc 0).sem, .dma (gc 1).sem]
theorem ownSemFacts : Pipeline.OwnSemFacts cfg0.spec osem := by decide

/-! ## The element sets of blocks and slots -/

abbrev X64 (b : Fin 64) : Finset S16384x2048.Idx := (Rect.unit (s := S16384x2048) (xOff b) S256x2048.size (xOff_inb b)).set
abbrev Q64 (b : Fin 64) : Finset S24x4x16x256x128.Idx := (Rect.unit (s := S24x4x16x256x128) (qOff b) S24x1x16x16x128.size (qOff_inb b)).set
abbrev G64 (b : Fin 64) : Finset S16x16384x128.Idx := (Rect.unit (s := S16x16384x128) (gOff b) S16x256x128.size (gOff_inb b)).set
abbrev XS (s : Fin 2) : Finset S2x256x2048.Idx := (Rect.unit (s := S2x256x2048) (xsOff s) S1x256x2048.size (xsOff_inb s)).set
abbrev QS (s : Fin 2) : Finset S2x24x1x16x16x128.Idx := (Rect.unit (s := S2x24x1x16x16x128) (qsOff s) S1x24x1x16x16x128.size (qsOff_inb s)).set
abbrev GS (s : Fin 2) : Finset S2x16x256x128.Idx := (Rect.unit (s := S2x16x256x128) (gsOff s) S1x16x256x128.size (gsOff_inb s)).set

theorem xblk_set (b : Fin 64) : (xblk b).view.set = X64 b := View.set_slice_whole _ _
theorem qblk_set (b : Fin 64) : (qblk b).view.set = Q64 b := View.set_slice_whole _ _
theorem gblk_set (b : Fin 64) : (gblk b).view.set = G64 b := View.set_slice_whole _ _
theorem xslot_set (s : Fin 2) : (xslot s).view.set = XS s := (View.set_reshape _ _).trans (View.set_slice_whole _ _)
theorem qslot_set (s : Fin 2) : (qslot s).view.set = QS s := (View.set_reshape _ _).trans (View.set_slice_whole _ _)
theorem gslot_set (s : Fin 2) : (gslot s).view.set = GS s := (View.set_reshape _ _).trans (View.set_slice_whole _ _)

/-- A block of rows holds the indices whose row is in it. -/
theorem mem_X64 (b : Fin 64) (y : S16384x2048.Idx) : y ∈ X64 b ↔ (y 0).val / 256 = b.val := by
  rw [Rect.mem_set_unit]
  have h1 : (y 1).val < 2048 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 2048; omega
theorem mem_Q64 (b : Fin 64) (y : S24x4x16x256x128.Idx) : y ∈ Q64 b ↔ 16 * (y 1).val + (y 3).val / 16 = b.val := by
  rw [Rect.mem_set_unit]
  have h0 : (y 0).val < 24 := (y 0).isLt
  have h1 : (y 1).val < 4 := (y 1).isLt
  have h2 : (y 2).val < 16 := (y 2).isLt
  have h3 : (y 3).val < 256 := (y 3).isLt
  have h4 : (y 4).val < 128 := (y 4).isLt
  constructor
  · intro H
    have a1 : b.val / 16 ≤ (y 1).val ∧ (y 1).val < b.val / 16 + 1 := H 1
    have a3 : 16 * (b.val % 16) ≤ (y 3).val ∧ (y 3).val < 16 * (b.val % 16) + 16 := H 3
    omega
  · intro H i; fin_cases i
    · show 0 ≤ (y 0).val ∧ (y 0).val < 0 + 24; omega
    · show b.val / 16 ≤ (y 1).val ∧ (y 1).val < b.val / 16 + 1; omega
    · show 0 ≤ (y 2).val ∧ (y 2).val < 0 + 16; omega
    · show 16 * (b.val % 16) ≤ (y 3).val ∧ (y 3).val < 16 * (b.val % 16) + 16; omega
    · show 0 ≤ (y 4).val ∧ (y 4).val < 0 + 128; omega
theorem mem_G64 (b : Fin 64) (y : S16x16384x128.Idx) : y ∈ G64 b ↔ (y 1).val / 256 = b.val := by
  rw [Rect.mem_set_unit]
  have h0 : (y 0).val < 16 := (y 0).isLt
  have h2 : (y 2).val < 128 := (y 2).isLt
  constructor
  · intro H; have a1 : 256 * b.val ≤ (y 1).val ∧ (y 1).val < 256 * b.val + 256 := H 1; omega
  · intro H i; fin_cases i
    · show 0 ≤ (y 0).val ∧ (y 0).val < 0 + 16; omega
    · show 256 * b.val ≤ (y 1).val ∧ (y 1).val < 256 * b.val + 256; omega
    · show 0 ≤ (y 2).val ∧ (y 2).val < 0 + 128; omega
theorem mem_XS (s : Fin 2) (y : S2x256x2048.Idx) : y ∈ XS s ↔ (y 0).val = s.val := by
  rw [Rect.mem_set_unit]
  have h1 : (y 1).val < 256 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 2048; omega
theorem mem_QS (s : Fin 2) (y : S2x24x1x16x16x128.Idx) : y ∈ QS s ↔ (y 0).val = s.val := by
  rw [Rect.mem_set_unit]
  have h1 : (y 1).val < 24 := (y 1).isLt
  have h2 : (y 2).val < 1 := (y 2).isLt
  have h3 : (y 3).val < 16 := (y 3).isLt
  have h4 : (y 4).val < 16 := (y 4).isLt
  have h5 : (y 5).val < 128 := (y 5).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 24; omega
    · show 0 ≤ (y 2).val ∧ (y 2).val < 0 + 1; omega
    · show 0 ≤ (y 3).val ∧ (y 3).val < 0 + 16; omega
    · show 0 ≤ (y 4).val ∧ (y 4).val < 0 + 16; omega
    · show 0 ≤ (y 5).val ∧ (y 5).val < 0 + 128; omega
theorem mem_GS (s : Fin 2) (y : S2x16x256x128.Idx) : y ∈ GS s ↔ (y 0).val = s.val := by
  rw [Rect.mem_set_unit]
  have h1 : (y 1).val < 16 := (y 1).isLt
  have h2 : (y 2).val < 256 := (y 2).isLt
  have h3 : (y 3).val < 128 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 16; omega
    · show 0 ≤ (y 2).val ∧ (y 2).val < 0 + 256; omega
    · show 0 ≤ (y 3).val ∧ (y 3).val < 0 + 128; omega

/-- Sets told apart by a function of the index are disjoint, and cover where the function has its values in range. -/
theorem disjoint_of {I : Type} [DecidableEq I] {n : ℕ} (S : Fin n → Finset I) (f : I → ℕ) (h : ∀ b y, y ∈ S b ↔ f y = b.val) :
    ∀ b b', b ≠ b' → Disjoint (S b) (S b') := by
  intro b b' hne; rw [Finset.disjoint_left]; intro y hy hy'; rw [h] at hy hy'; exact hne (Fin.ext (hy.symm.trans hy'))
theorem cover_of {I : Type} [DecidableEq I] [Fintype I] {n : ℕ} (S : Fin n → Finset I) (f : I → ℕ) (h : ∀ b y, y ∈ S b ↔ f y = b.val) (hf : ∀ y, f y < n) :
    (Finset.univ : Finset (Fin n)).biUnion S = Finset.univ := by
  ext y; simp only [Finset.mem_biUnion, Finset.mem_univ, true_and, iff_true]; exact ⟨⟨f y, hf y⟩, (h _ _).mpr rfl⟩

theorem X64_lt (y : S16384x2048.Idx) : (y 0).val / 256 < 64 := by have h : (y 0).val < 16384 := (y 0).isLt; omega
theorem Q64_lt (y : S24x4x16x256x128.Idx) : 16 * (y 1).val + (y 3).val / 16 < 64 := by
  have h : (y 1).val < 4 := (y 1).isLt
  have h' : (y 3).val < 256 := (y 3).isLt
  omega
theorem G64_lt (y : S16x16384x128.Idx) : (y 1).val / 256 < 64 := by have h : (y 1).val < 16384 := (y 1).isLt; omega

/-! ## The arrays by their blocks, the buffers by their slots -/

theorem x_eq (c : Dev nD) (X : Cn F xM c) : (((c : Thread nD τ).loc main_v0) ↦{fullShare} X : sProp 𝕄) = bigSep Finset.univ (xh c X) := by
  rw [Ring.pointsTo_blocks (ℓ := (c : Thread nD τ).loc main_v0) X64 (disjoint_of _ _ mem_X64) (cover_of _ _ mem_X64 X64_lt)]
  exact bigSep_congr fun b _ => by rw [← xblk_set]; rfl
theorem q_eq (c : Dev nD) (X : Cn F qM c) : (((c : Thread nD τ).loc main_v3_0) ↦{fullShare} X : sProp 𝕄) = bigSep Finset.univ (qh c X) := by
  rw [Ring.pointsTo_blocks (ℓ := (c : Thread nD τ).loc main_v3_0) Q64 (disjoint_of _ _ mem_Q64) (cover_of _ _ mem_Q64 Q64_lt)]
  exact bigSep_congr fun b _ => by rw [← qblk_set]; rfl
theorem g_eq (c : Dev nD) (X : Cn F gM c) : (((c : Thread nD τ).loc main_v3_1) ↦{fullShare} X : sProp 𝕄) = bigSep Finset.univ (gh c X) := by
  rw [Ring.pointsTo_blocks (ℓ := (c : Thread nD τ).loc main_v3_1) G64 (disjoint_of _ _ mem_G64) (cover_of _ _ mem_G64 G64_lt)]
  exact bigSep_congr fun b _ => by rw [← gblk_set]; rfl
theorem w_eq (c : Dev nD) (X : Cn F wM c) : (((c : Thread nD τ).loc main_v2) ↦{fullShare} X : sProp 𝕄) = own c wM X := by
  show _ = ((c : Thread nD τ).loc main_v2 ↦[(View.whole main_v2).set]{fullShare} X : sProp 𝕄)
  rw [View.set_whole]
theorem wB_eq (c : Dev nD) (X : Cn F wB c) : (((c : Thread nD τ).loc cc0_scratch0) ↦{fullShare} X : sProp 𝕄) = own c wB X := by
  show _ = ((c : Thread nD τ).loc cc0_scratch0 ↦[(View.whole cc0_scratch0).set]{fullShare} X : sProp 𝕄)
  rw [View.set_whole]

theorem bigSep_two (Φ : Fin 2 → sProp 𝕄) : bigSep Finset.univ Φ = iprop(Φ 0 ∗ Φ 1) :=
  bigSep_univ_eq_bigSepL [(0 : Fin 2), (1 : Fin 2)] (by decide) (by decide) Φ
/-- A buffer in two halves: it splits into them, and they join to it, whatever they hold. -/
theorem halves_split {ℓ : Loc nD τ sig} (S : Fin 2 → Finset ℓ.ty.Idx) (hd : ∀ b b', b ≠ b' → Disjoint (S b) (S b')) (hc : Finset.univ.biUnion S = Finset.univ) :
    iprop(∃ f : Buf (Elt F) ℓ, ℓ ↦{fullShare} f) ⊢ (iprop((∃ f, ℓ ↦[S 0]{fullShare} f) ∗ ∃ f, ℓ ↦[S 1]{fullShare} f) : sProp 𝕄) := by
  iintro ⟨%f, H⟩
  ihave H2 := (BIBase.Entails.of_eq ((Ring.pointsTo_blocks (Ix := Unit) (Name := ℕ) (U := UU nD τ) (Lvl := ℕ) (q := fullShare) (ℓ := ℓ) S hd hc f).trans (bigSep_two _))) $$ H
  icases H2 with ⟨H0, H1⟩
  isplitl [H0]
  · iexists f; iexact H0
  · iexists f; iexact H1
theorem halves_join {ℓ : Loc nD τ sig} (S : Fin 2 → Finset ℓ.ty.Idx) (hd : ∀ b b', b ≠ b' → Disjoint (S b) (S b')) (hc : Finset.univ.biUnion S = Finset.univ) :
    (iprop((∃ f, ℓ ↦[S 0]{fullShare} f) ∗ ∃ f, ℓ ↦[S 1]{fullShare} f) : sProp 𝕄) ⊢ iprop(∃ f : Buf (Elt F) ℓ, ℓ ↦{fullShare} f) := by
  iintro ⟨⟨%f0, H0⟩, ⟨%f1, H1⟩⟩
  iapply (Ring.pointsTo_blocks_join_exists (ℓ := ℓ) S hd hc f0)
  irw [bigSep_two]
  isplitl [H0]
  · iexists f0; iexact H0
  · iexists f1; iexact H1

theorem xs_eq (c : Dev nD) (s : Fin 2) (f) : xs c s f = (((c : Thread nD τ).loc cc0_scoped0) ↦[XS s]{fullShare} f : sProp 𝕄) :=
  congrArg (fun S => (_ ↦[S]{fullShare} f : sProp 𝕄)) (xslot_set s)
theorem qs_eq (c : Dev nD) (s : Fin 2) (f) : qs c s f = (((c : Thread nD τ).loc cc0_scoped2) ↦[QS s]{fullShare} f : sProp 𝕄) :=
  congrArg (fun S => (_ ↦[S]{fullShare} f : sProp 𝕄)) (qslot_set s)
theorem gs_eq (c : Dev nD) (s : Fin 2) (f) : gs c s f = (((c : Thread nD τ).loc cc0_scoped4) ↦[GS s]{fullShare} f : sProp 𝕄) :=
  congrArg (fun S => (_ ↦[S]{fullShare} f : sProp 𝕄)) (gslot_set s)

/-- The scoped buffers, whole. -/
abbrev buffers (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scoped0), ((c : Thread nD τ).loc cc0_scoped0) ↦{fullShare} f)
    ∗ (∃ f : Buf (Elt F) ((c : Thread nD τ).loc cc0_scoped2), ((c : Thread nD τ).loc cc0_scoped2) ↦{fullShare} f)
    ∗ (∃ f : Buf (Elt F) ((c : Thread nD τ).loc cc0_scoped4), ((c : Thread nD τ).loc cc0_scoped4) ↦{fullShare} f))
/-- The kernel's semaphores, at zero. -/
abbrev zeros (c : Dev nD) : sProp 𝕄 :=
  iprop(zero c cc0_scratch1 ∗ zero c (xc 0) ∗ zero c (xc 1) ∗ zero c (qc 0) ∗ zero c (qc 1) ∗ zero c (gc 0) ∗ zero c (gc 1))

theorem ownSems0_eq (c : Dev nD) : (Pipeline.ownSems0 (Ix := Unit) (Name := ℕ) (U := UU nD τ) (Lvl := ℕ) (Val := Elt F) (τ := τ) osem c : sProp 𝕄) = zeros c := by
  unfold Pipeline.ownSems0
  exact bigSep_univ_eq_bigSepL [(0 : Fin 7), 1, 2, 3, 4, 5, 6] (by decide) (by decide) _

theorem scratch_in (c : Dev nD) : iprop(buffers (F := F) c ∗ zeros c) ⊢ scratch c := by
  show _ ⊢ iprop((∃ f, own c wB f) ∗ zero c cc0_scratch1 ∗ (∃ f, xs c 0 f) ∗ (∃ f, xs c 1 f) ∗ zero c (xc 0) ∗ zero c (xc 1)
    ∗ (∃ f, qs c 0 f) ∗ (∃ f, qs c 1 f) ∗ zero c (qc 0) ∗ zero c (qc 1) ∗ (∃ f, gs c 0 f) ∗ (∃ f, gs c 1 f) ∗ zero c (gc 0) ∗ zero c (gc 1))
  simp only [xs_eq, qs_eq, gs_eq, ← wB_eq]
  iintro ⟨⟨HW, HX, HQ, HG⟩, Hw, Hx0, Hx1, Hq0, Hq1, Hg0, Hg1⟩
  ihave HX' := (halves_split (ℓ := (c : Thread nD τ).loc cc0_scoped0) XS (disjoint_of _ _ mem_XS) (cover_of _ _ mem_XS fun y => (y 0).isLt)) $$ HX
  ihave HQ' := (halves_split (ℓ := (c : Thread nD τ).loc cc0_scoped2) QS (disjoint_of _ _ mem_QS) (cover_of _ _ mem_QS fun y => (y 0).isLt)) $$ HQ
  ihave HG' := (halves_split (ℓ := (c : Thread nD τ).loc cc0_scoped4) GS (disjoint_of _ _ mem_GS) (cover_of _ _ mem_GS fun y => (y 0).isLt)) $$ HG
  icases HX' with ⟨HX0, HX1⟩
  icases HQ' with ⟨HQ0, HQ1⟩
  icases HG' with ⟨HG0, HG1⟩
  isplitl [HW]; · iexact HW
  isplitl [Hw]; · iexact Hw
  isplitl [HX0]; · iexact HX0
  isplitl [HX1]; · iexact HX1
  isplitl [Hx0]; · iexact Hx0
  isplitl [Hx1]; · iexact Hx1
  isplitl [HQ0]; · iexact HQ0
  isplitl [HQ1]; · iexact HQ1
  isplitl [Hq0]; · iexact Hq0
  isplitl [Hq1]; · iexact Hq1
  isplitl [HG0]; · iexact HG0
  isplitl [HG1]; · iexact HG1
  isplitl [Hg0]; · iexact Hg0
  iexact Hg1
theorem scratch_out (c : Dev nD) : scratch c ⊢ iprop(zeros (F := F) c ∗ buffers c) := by
  show iprop((∃ f, own c wB f) ∗ zero c cc0_scratch1 ∗ (∃ f, xs c 0 f) ∗ (∃ f, xs c 1 f) ∗ zero c (xc 0) ∗ zero c (xc 1)
    ∗ (∃ f, qs c 0 f) ∗ (∃ f, qs c 1 f) ∗ zero c (qc 0) ∗ zero c (qc 1) ∗ (∃ f, gs c 0 f) ∗ (∃ f, gs c 1 f) ∗ zero c (gc 0) ∗ zero c (gc 1)) ⊢ _
  simp only [xs_eq, qs_eq, gs_eq, ← wB_eq]
  iintro ⟨HW, Hw, HX0, HX1, Hx0, Hx1, HQ0, HQ1, Hq0, Hq1, HG0, HG1, Hg0, Hg1⟩
  isplitl [Hw Hx0 Hx1 Hq0 Hq1 Hg0 Hg1]
  · isplitl [Hw]; · iexact Hw
    isplitl [Hx0]; · iexact Hx0
    isplitl [Hx1]; · iexact Hx1
    isplitl [Hq0]; · iexact Hq0
    isplitl [Hq1]; · iexact Hq1
    isplitl [Hg0]; · iexact Hg0
    iexact Hg1
  isplitl [HW]; · iexact HW
  isplitl [HX0 HX1]
  · iapply (halves_join (ℓ := (c : Thread nD τ).loc cc0_scoped0) XS (disjoint_of _ _ mem_XS) (cover_of _ _ mem_XS fun y => (y 0).isLt))
    isplitl [HX0]; · iexact HX0
    iexact HX1
  isplitl [HQ0 HQ1]
  · iapply (halves_join (ℓ := (c : Thread nD τ).loc cc0_scoped2) QS (disjoint_of _ _ mem_QS) (cover_of _ _ mem_QS fun y => (y 0).isLt))
    isplitl [HQ0]; · iexact HQ0
    iexact HQ1
  iapply (halves_join (ℓ := (c : Thread nD τ).loc cc0_scoped4) GS (disjoint_of _ _ mem_GS) (cover_of _ _ mem_GS fun y => (y 0).isLt))
  isplitl [HG0]; · iexact HG0
  iexact HG1

/-! ## The proof data of the one point -/

/-- The results as the run leaves them: the loop's values of the arrays as the kernel finds them. -/
def outQ (c : Dev nD) : Cn F qM c := Q1 c (V m c main_v0) (wIn c (V m c main_v2))
def outG (c : Dev nD) : Cn F gM c := G1 c (V m c main_v0) (wIn c (V m c main_v2))

/-- Before the point the results are as launched, after it they hold the values. -/
def Φ (c : Dev nD) (t : Fin (cfg0.N + 1)) : sProp 𝕄 :=
  if t.val = 0 then iprop(arrays c (V m c main_v0) (V m c main_v2) (V m c main_v3_0) (V m c main_v3_1) ∗ scratch c)
  else iprop(arrays c (V m c main_v0) (V m c main_v2) (outQ m c) (outG m c) ∗ scratch c)

theorem Φ_before (c : Dev nD) (t : Fin (cfg0.N + 1)) (h : t.val = 0) :
    Φ m c t = iprop(arrays c (V m c main_v0) (V m c main_v2) (V m c main_v3_0) (V m c main_v3_1) ∗ scratch c) := if_pos h
theorem Φ_after (c : Dev nD) (t : Fin (cfg0.N + 1)) (h : t.val ≠ 0) :
    Φ m c t = iprop(arrays c (V m c main_v0) (V m c main_v2) (outQ m c) (outG m c) ∗ scratch c) := if_neg h

def dats (_ : Fin 1) (c : Dev nD) : Dat τ (Elt F) Unit ℕ (UU nD τ) ℕ cfg0 c where
  A w := V m c (Pipeline.arrRef cfg0.spec w)
  after w _ := w.elim0
  Φ := Φ m c
  q _ := fullShare
  owed _ := 0

theorem defs_tc : (defs₀ (F := F)) .tc cfg0.body = fun _ => bodyG (F := F) := rfl
theorem prog_eq (t : Fin cfg0.N) : (defs₀ (F := F)) .tc cfg0.body (cfg0.bodyArgs t (cfg0.slots t)) = bodyG (F := F) :=
  (congrFun defs_tc _).trans rfl

theorem N_one (t : Fin cfg0.N) : t.val = 0 := by
  have h : cfg0.N = 1 := N_0
  have := t.isLt
  omega

/-- The pipeline stages no window. -/
theorem bigSep_none (P : Fin cfg0.W → sProp 𝕄) : bigSep Finset.univ P = (BI.emp : sProp 𝕄) := rfl

set_option backward.isDefEq.respectTransparency.types false in
theorem body_obligation (c : Dev nD) : BodyObligation (dats (F := F) m 0 c) (defs₀ (F := F)) 𝒱₀ () Set.univ := fun t => by
  rw [bigSep_none, bigSep_none]
  have e0 : (dats (F := F) m 0 c).Φ t.castSucc = iprop(arrays c (V m c main_v0) (V m c main_v2) (V m c main_v3_0) (V m c main_v3_1) ∗ scratch c) :=
    Φ_before m c _ (N_one t)
  have e1 : (dats (F := F) m 0 c).Φ t.succ = iprop(arrays c (V m c main_v0) (V m c main_v2) (outQ m c) (outG m c) ∗ scratch c) :=
    Φ_after m c t.succ (by rw [Fin.val_succ]; exact Nat.succ_ne_zero _)
  rw [e0, e1]
  unfold Dat.owesAt Pipeline.owesWithin
  rw [show (dats (F := F) m 0 c).owed t.castSucc = 0 from rfl, show (dats (F := F) m 0 c).owed t.succ = 0 from rfl]
  iintro ⟨⟨HA, HS⟩, ⟨%W, -, HW⟩, -⟩
  sl_rw [prog_eq t]
  iapply (bodyRun c (V m c main_v0) (V m c main_v2) (V m c main_v3_0) (V m c main_v3_1) W)
  isplitl [HA HS HW]
  · isplitl [HA]; · iexact HA
    isplitl [HS]; · iexact HS
    iexact HW
  · iintro ⟨HA, HS, ⟨%W', HW⟩⟩
    isplitl [HA HS]
    · isplitl [HA]; · iexact HA
      iexact HS
    isplitl [HW]
    · iexists W'; isplitr; · ipureintro; exact fun _ _ => Or.inl trivial
      iexact HW
    iempintro

/-! ## The run -/

def intoΦ (c : Dev nD) : sProp 𝕄 := iprop(arrays c (V m c main_v0) (V m c main_v2) (V m c main_v3_0) (V m c main_v3_1) ∗ Pipeline.ownSems0 osem c)
/-- The arguments beside the kernel, -/
def args (c : Dev nD) : sProp 𝕄 :=
  iprop((((c : Thread nD τ).loc main_arg0) ↦{fullShare} V m c main_arg0) ∗ (((c : Thread nD τ).loc main_arg1) ↦{fullShare} V m c main_arg1))
/-- the results after it. -/
def outOfΦ (c : Dev nD) : sProp 𝕄 :=
  iprop((((c : Thread nD τ).loc main_v3_0) ↦{fullShare} outQ m c) ∗ (((c : Thread nD τ).loc main_v3_1) ↦{fullShare} outG m c))
def u₀ : UU nD τ := (initOf (Pipeline.cells cfgs cellOf_inj) (Pipeline.launchToks cfgs cellOf_inj), 1)
def QY (c : Dev nD) (s : MemSt nD τ sig (Elt F)) : Prop :=
  s.mem ((c : Thread nD τ).loc main_v3_0) = outQ m c ∧ s.mem ((c : Thread nD τ).loc main_v3_1) = outG m c
    ∧ s.mem ((c : Thread nD τ).loc main_arg0) = m ((c : Thread nD τ).loc main_arg0) ∧ s.mem ((c : Thread nD τ).loc main_arg1) = m ((c : Thread nD τ).loc main_arg1)

set_option backward.isDefEq.respectTransparency.types false in
/-- For any float values, from any memory with zero counters: every weakly fair execution of @main terminates with the
    results at the loop's values, the arguments unchanged and every semaphore counter at zero. -/
theorem run_main : θ_run defs (onTc (τ := τ) (main (F := F))) ⟨m, fun _ => 0, ρ⟩ (fun r => (∀ c : Dev nD, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := args m)
    (hX := fun c => by
      rw [unscopedRest0_eq, x_eq, w_eq, q_eq, g_eq]
      unfold intoΦ args
      iintro ⟨⟨Ha0, Ha1, H0, -, H2, H30, H31⟩, HS, -, -⟩; imodintro
      isplitl [H0 H2 H30 H31 HS]
      · isplitl [H0 H2 H30 H31]
        · isplitl [H2]; · iexact H2
          isplitl [H0]; · iexact H0
          isplitl [H30]; · iexact H30
          iexact H31
        iexact HS
      isplitl [Ha0]; · iexact Ha0
      iexact Ha1)
    (hin := fun c => by
      rw [scopedRest0_eq, show (dats (F := F) m 0 c).Φ 0 = iprop(arrays c (V m c main_v0) (V m c main_v2) (V m c main_v3_0) (V m c main_v3_1) ∗ scratch c) from Φ_before m c 0 rfl]
      unfold intoΦ; rw [ownSems0_eq]
      iintro ⟨⟨HA, HS⟩, HB⟩
      isplitl [HA]; · iexact HA
      iapply (scratch_in c)
      isplitl [HB]; · iexact HB
      iexact HS)
    (hout := fun c => by
      rw [scopedRest0_eq, show (dats (F := F) m 0 c).Φ (Fin.last (cfgs 0).N) = iprop(arrays c (V m c main_v0) (V m c main_v2) (outQ m c) (outG m c) ∗ scratch c) from Φ_after m c (Fin.last (cfgs 0).N) (by show cfg0.N ≠ 0; rw [show cfg0.N = 1 from N_0]; decide), ownSems0_eq]
      unfold outOfΦ; rw [q_eq, g_eq]
      iintro ⟨⟨-, -, H30, H31⟩, HS⟩
      ihave H := (scratch_out c) $$ HS
      icases H with ⟨HZ, HB⟩
      isplitl [H30 H31]
      · isplitl [H30]; · iexact H30
        iexact H31
      isplitl [HZ]; · iexact HZ
      iexact HB)
    (QY := QY m)
    (hY := fun c s' => by
      unfold outOfΦ args
      iintro ⟨⟨H30, H31⟩, ⟨Ha0, Ha1⟩, HSI⟩
      icombine HSI H30 gives %h30
      icombine HSI H31 gives %h31
      icombine HSI Ha0 gives %h0
      icombine HSI Ha1 gives %h1
      imodintro
      isplitr
      · ipureintro
        exact ⟨Buf.eq_of_forall_mem_univ h30, Buf.eq_of_forall_mem_univ h31,
          (Buf.eq_of_forall_mem_univ h0).trans (V_main_arg0 m c), (Buf.eq_of_forall_mem_univ h1).trans (V_main_arg1 m c)⟩
      iexact HSI)
    (hQ := fun _ hh hz => ⟨fun c => (hh c).2, hz⟩)

end Cert.Proof.InProj

end
-- ==== Proof.Value.lean ====
/-
  What the kernel's two results hold over the extended reals: the products of the activations with the weights' columns,
  laid out plane by plane, the first eight planes scaled.
-/
module

public import proofs.«01_k».proof.Proof.Launch
public import Idealize.ShloMosaic.Lib.Pointwise

@[expose] public section

noncomputable section

namespace Cert.Proof.Values

open Cert.KernelIdeal Cert.KernelIdeal.Gen
open Idealize.ShloMosaic
open Idealize.ShloMosaic.TcCoe Idealize.ShloMosaic.Tactic
open Cert.Proof.InProj hiding ix2

/-! ## The permutation of a block's rows -/

/-- The row of the block that row `w` of the permuted block is read from, as the kernel computes it on words. -/
def srcWord (w : BitVec 32) : BitVec 32 :=
  IntOp.addi
    (IntOp.muli
      (Scalar.select
        (IntOp.andi
          (IntOp.xori
            (IntOp.cmpi .slt (IntOp.remsi .vector w (Scalar.select (Scalar.cmpi .eq 16#32 0#32) 1#32 16#32)) 0#32)
            (Scalar.cmpi .slt 16#32 0#32))
          (IntOp.cmpi .ne (IntOp.remsi .vector w (Scalar.select (Scalar.cmpi .eq 16#32 0#32) 1#32 16#32)) 0#32))
        (IntOp.addi (IntOp.remsi .vector w (Scalar.select (Scalar.cmpi .eq 16#32 0#32) 1#32 16#32)) 16#32)
        (IntOp.remsi .vector w (Scalar.select (Scalar.cmpi .eq 16#32 0#32) 1#32 16#32)))
      16#32)
    (Scalar.select
      (IntOp.andi
        (IntOp.cmpi .ne
          (IntOp.subi (BitVec.setWidth 32 (IntOp.cmpi .sgt w 0#32)) (BitVec.setWidth 32 (IntOp.cmpi .slt w 0#32)))
          (Scalar.subi (Scalar.extui (Scalar.cmpi .sgt 16#32 0#32)) (Scalar.extui (Scalar.cmpi .slt 16#32 0#32))))
        (IntOp.cmpi .ne (IntOp.remsi .vector w 16#32) 0#32))
      (IntOp.subi (IntOp.divsi .vector w 16#32) 1#32)
      (IntOp.divsi .vector w 16#32))

/-- Row `16 r + i` is read from row `16 i + r`. -/
def src (r : Fin 256) : Fin 256 := ⟨16 * (r.val % 16) + r.val / 16, by omega⟩

theorem srcWord_eq : ∀ r : Fin 256, srcWord (BitVec.ofNat 32 r.val) = BitVec.ofNat 32 (src r).val := by decide +kernel

/-- The permutation matrix's entry. -/
theorem mark (k s : Fin 256) :
    FloatOps.sitofp (F := Ideal) .f32 (BitVec.setWidth 32 (IntOp.cmpi .eq (BitVec.ofNat 32 k.val) (BitVec.ofNat 32 s.val)))
      = if k = s then (1 : EReal) else 0 := by
  have hinj : (BitVec.ofNat 32 k.val = BitVec.ofNat 32 s.val) ↔ k = s := by
    constructor
    · intro h
      have := congrArg BitVec.toNat h
      simp only [BitVec.toNat_ofNat] at this
      have := k.isLt; have := s.isLt
      exact Fin.ext (by omega)
    · rintro rfl; rfl
  by_cases h : k = s
  · subst h
    rw [if_pos rfl]
    have e : IntOp.cmpi .eq (BitVec.ofNat 32 k.val) (BitVec.ofNat 32 k.val) = 1#1 := by simp [IntOp.cmpi]
    rw [e]
    show (((BitVec.setWidth 32 1#1).toInt : ℝ) : EReal) = 1
    rw [show (BitVec.setWidth 32 1#1).toInt = 1 by decide]; norm_num
  · rw [if_neg h]
    have e : IntOp.cmpi .eq (BitVec.ofNat 32 k.val) (BitVec.ofNat 32 s.val) = 0#1 := by
      have : (BitVec.ofNat 32 k.val == BitVec.ofNat 32 s.val) = false := beq_eq_false_iff_ne.mpr fun e => h (hinj.mp e)
      simp only [IntOp.cmpi, this]; rfl
    rw [e]
    show (((BitVec.setWidth 32 0#1).toInt : ℝ) : EReal) = 0
    rw [show (BitVec.setWidth 32 0#1).toInt = 0 by decide]; norm_num

theorem xperm_apply (xv : FVec Ideal S256x2048 .bf16) (r : Fin 256) (d : Fin 2048) : xperm xv (ix2 r d) = xv (ix2 (src r) d) := by
  pointwise [xperm, k0_pay3, k0_pay2]
  show ∑ x : Fin 256, FloatOps.sitofp (F := Ideal) .f32 (BitVec.setWidth 32 (IntOp.cmpi .eq (BitVec.ofNat 32 x.val) (srcWord (BitVec.ofNat 32 r.val))))
    * (xv (ix2 x d) : EReal) = xv (ix2 (src r) d)
  rw [srcWord_eq r]
  simp only [mark]
  rw [Finset.sum_eq_single (src r)]
  · rw [if_pos rfl, one_mul]
  · intro k _ hk
    rw [if_neg hk, zero_mul]
  · intro h; exact absurd (Finset.mem_univ _) h

/-! ## The products of a block -/

/-- Row `r` of a block with column `e` of a group of columns. -/
def dots (xv : FVec Ideal S256x2048 .bf16) (w : Vec Ideal S2048x1024 .bf16) (r : Fin 256) (e : Fin 1024) : EReal :=
  ∑ d : Fin 2048, (xv (ix2 r d) : EReal) * w (ix2 d e)

theorem pay4_apply (xv : FVec Ideal S256x2048 .bf16) (w : Vec Ideal S2048x1024 .bf16) (r : Fin 256) (e : Fin 1024) :
    k0_pay4 xv w (ix2 r e) = dots xv w r e * Ideal.ofBits .f32 0x3E38AA3B#32 := by
  unfold dots; pointwise [k0_pay4]
theorem pay173_apply (xv : FVec Ideal S256x2048 .bf16) (w : Vec Ideal S2048x1024 .bf16) (r : Fin 256) (e : Fin 1024) :
    k0_pay173 xv w (ix2 r e) = dots xv w r e := by
  unfold dots; pointwise [k0_pay173]
theorem pay341_apply (xv : FVec Ideal S256x2048 .bf16) (w : Vec Ideal S2048x1024 .bf16) (r : Fin 256) (e : Fin 1024) :
    k0_pay341 xv w (ix2 r e) = dots xv w r e := by
  unfold dots; pointwise [k0_pay341]
theorem pay511_apply (xv : FVec Ideal S256x2048 .bf16) (w : Vec Ideal S2048x1024 .bf16) (r : Fin 256) (e : Fin 1024) :
    k0_pay511 xv w (ix2 r e) = dots xv w r e := by
  unfold dots; pointwise [k0_pay511]

theorem wcols_apply (c : Dev nD) (W : Cn Ideal wB c) (g : Fin 5) (d : Fin 2048) (e : Fin 1024) :
    wcols c W g (ix2 d e) = W (ix2 d (⟨1024 * g.val + e.val, by omega⟩ : Fin 5120)) := by
  unfold wcols
  rw [View.readAt_rect]
  refine congrArg (fun i : S2048x5120.Idx => W i) (funext fun a => ?_)
  match a with
  | ⟨0, _⟩ => exact Fin.ext (by show 0 + 1 * d.val = d.val; omega)
  | ⟨1, _⟩ => exact Fin.ext (by show 1024 * g.val + 1 * e.val = 1024 * g.val + e.val; omega)

theorem xspec_apply (c : Dev nD) (X : Cn Ideal xM c) (b : Fin 64) (r : Fin 256) (d : Fin 2048) :
    xspec c X b (ix2 r d) = X (ix2 (⟨256 * b.val + r.val, by omega⟩ : Fin 16384) d) := by
  unfold xspec
  pointwise
  refine congrArg (fun i : S16384x2048.Idx => X i) (funext fun a => ?_)
  match a with
  | ⟨0, _⟩ => exact Fin.ext (by show 256 * b.val + 1 * r.val = 256 * b.val + r.val; omega)
  | ⟨1, _⟩ => exact Fin.ext (by show 0 + 1 * d.val = d.val; omega)

/-! ## The arrays as the kernel finds them -/

variable (m : (ℓ : Loc nD τ sig) → Buf (Elt Ideal) ℓ) (c : Dev nD)

/-- The arguments' contents. -/
abbrev X₀ : FVec Ideal S4x4096x2048 .f32 := m ((c : Thread nD τ).loc main_arg0)
abbrev W₀ : FVec Ideal S1x2048x5120 .f32 := m ((c : Thread nD τ).loc main_arg1)

theorem V_v0 : V m c main_v0 = shapeCast S16384x2048 (X₀ m c) shapeCasts_S4x4096x2048_S16384x2048 := by
  dsimp only [V, hostOps0]
  after_results <;> rfl
theorem V_v2 : V m c main_v2 = truncf .bf16 (shapeCast S2048x5120 (W₀ m c) shapeCasts_S1x2048x5120_S2048x5120) bitsLt_bf16_f32 := by
  dsimp only [V, hostOps0]
  after_results <;> rfl

theorem flat_apply (x : FVec Ideal S4x4096x2048 .f32) (t : Fin 16384) (d : Fin 2048) :
    shapeCast S16384x2048 x shapeCasts_S4x4096x2048_S16384x2048 (ix2 t d) = x (ix3 (⟨t.val / 4096, by omega⟩ : Fin 4) (⟨t.val % 4096, by omega⟩ : Fin 4096) d) := by
  pointwise
theorem cast_apply (w : FVec Ideal S1x2048x5120 .f32) (d : Fin 2048) (e : Fin 5120) :
    (truncf .bf16 (shapeCast S2048x5120 w shapeCasts_S1x2048x5120_S2048x5120) bitsLt_bf16_f32 : FVec Ideal S2048x5120 .bf16) (ix2 d e) = w (ix3 (0 : Fin 1) d e) := by
  pointwise
theorem V_v0_apply (t : Fin 16384) (d : Fin 2048) :
    (V m c main_v0 : FVec Ideal S16384x2048 .f32) (ix2 t d) = X₀ m c (ix3 (⟨t.val / 4096, by omega⟩ : Fin 4) (⟨t.val % 4096, by omega⟩ : Fin 4096) d) :=
  (congrFun (V_v0 m c) _).trans (flat_apply _ t d)
theorem V_v2_apply (d : Fin 2048) (e : Fin 5120) :
    (V m c main_v2 : FVec Ideal S2048x5120 .bf16) (ix2 d e) = W₀ m c (ix3 (0 : Fin 1) d e) :=
  (congrFun (V_v2 m c) _).trans (cast_apply _ d e)

/-- Position `t` of batch entry `b` with column `e` of the weights. -/
def proj (b : Fin 4) (t : Fin 4096) (e : Fin 5120) : EReal :=
  ∑ d : Fin 2048, (X₀ m c (ix3 b t d) : EReal) * W₀ m c (ix3 (0 : Fin 1) d e)

theorem dots_eq (B : Fin 64) (R : Fin 256) (g : Fin 5) (e : Fin 1024) (b : Fin 4) (t : Fin 4096) (e' : Fin 5120)
    (hb : b.val = (256 * B.val + R.val) / 4096) (ht : t.val = (256 * B.val + R.val) % 4096) (he : e'.val = 1024 * g.val + e.val) :
    dots (xspec c (V m c main_v0) B) (wcols c (wIn c (V m c main_v2)) g) R e = proj m c b t e' := by
  unfold dots proj
  refine Finset.sum_congr rfl fun d _ => ?_
  rw [xspec_apply, wcols_apply]
  refine congrArg₂ (fun x y : EReal => x * y) ((V_v0_apply m c _ d).trans ?_) ((V_v2_apply m c d _).trans ?_)
  · rw [show b = ⟨(256 * B.val + R.val) / 4096, by omega⟩ from Fin.ext hb, show t = ⟨(256 * B.val + R.val) % 4096, by omega⟩ from Fin.ext ht]
  · rw [show e' = ⟨1024 * g.val + e.val, by omega⟩ from Fin.ext he]

theorem dots_perm (B : Fin 64) (R : Fin 256) (g : Fin 5) (e : Fin 1024) (b : Fin 4) (t : Fin 4096) (e' : Fin 5120)
    (hb : b.val = (256 * B.val + (src R).val) / 4096) (ht : t.val = (256 * B.val + (src R).val) % 4096) (he : e'.val = 1024 * g.val + e.val) :
    dots (xperm (xspec c (V m c main_v0) B)) (wcols c (wIn c (V m c main_v2)) g) R e = proj m c b t e' := by
  rw [← dots_eq m c B (src R) g e b t e' hb ht he]
  unfold dots
  simp only [xperm_apply]

theorem ix2_eq {n k : ℕ} (i : Fin n) (j : Fin k) : InProj.ix2 i j = ix2 i j := by
  funext a
  match a with
  | ⟨0, _⟩ => rfl
  | ⟨1, _⟩ => rfl

/-- The first result: plane `p` of 24, position `16 i + r` of batch entry `b`, lane `l`; the first eight planes scaled. -/
theorem outQ_apply (p : Fin 24) (b : Fin 4) (r : Fin 16) (i : Fin 256) (l : Fin 128) :
    (outQ m c : FVec Ideal S24x4x16x256x128 .f32) (ix5 p b r i l)
      = if p.val < 8 then proj m c b ⟨16 * i.val + r.val, by omega⟩ ⟨128 * p.val + l.val, by omega⟩ * Ideal.ofBits .f32 0x3E38AA3B#32
        else proj m c b ⟨16 * i.val + r.val, by omega⟩ ⟨128 * p.val + l.val, by omega⟩ := by
  have hp := p.isLt; have hb := b.isLt; have hr := r.isLt; have hi := i.isLt; have hl := l.isLt
  show qgroup c (xspec c (V m c main_v0) ⟨16 * b.val + i.val / 16, by omega⟩) (wIn c (V m c main_v2)) p.val
    (InProj.ix2 ⟨16 * r.val + i.val % 16, by omega⟩ ⟨128 * (p.val % 8) + l.val, by omega⟩) = _
  rw [ix2_eq]
  have key : ∀ g : Fin 5, g.val = p.val / 8 →
      dots (xperm (xspec c (V m c main_v0) ⟨16 * b.val + i.val / 16, by omega⟩)) (wcols c (wIn c (V m c main_v2)) g)
        ⟨16 * r.val + i.val % 16, by omega⟩ ⟨128 * (p.val % 8) + l.val, by omega⟩
      = proj m c b ⟨16 * i.val + r.val, by omega⟩ ⟨128 * p.val + l.val, by omega⟩ := by
    intro g hg
    have s1 : (16 * r.val + i.val % 16) % 16 = i.val % 16 := by omega
    have s2 : (16 * r.val + i.val % 16) / 16 = r.val := by omega
    refine dots_perm m c _ _ g _ _ _ _ ?_ ?_ ?_
    · show b.val = (256 * (16 * b.val + i.val / 16) + (16 * ((16 * r.val + i.val % 16) % 16) + (16 * r.val + i.val % 16) / 16)) / 4096; rw [s1, s2]; omega
    · show 16 * i.val + r.val = (256 * (16 * b.val + i.val / 16) + (16 * ((16 * r.val + i.val % 16) % 16) + (16 * r.val + i.val % 16) / 16)) % 4096; rw [s1, s2]; omega
    · show 128 * p.val + l.val = 1024 * g.val + (128 * (p.val % 8) + l.val); omega
  unfold qgroup
  by_cases h8 : p.val < 8
  · have e : Nat.blt p.val 8 = true := by simpa [Nat.blt_eq] using h8
    rw [if_pos h8, e, cond_true, pay4_apply, key 0 (by show 0 = _; omega)]
  · have e : Nat.blt p.val 8 = false := by rw [Bool.eq_false_iff]; simpa [Nat.blt_eq] using h8
    rw [if_neg h8, e, cond_false]
    by_cases h16 : p.val < 16
    · have e : Nat.blt p.val 16 = true := by simpa [Nat.blt_eq] using h16
      rw [e, cond_true, pay173_apply, key 1 (by show 1 = _; omega)]
    · have e : Nat.blt p.val 16 = false := by rw [Bool.eq_false_iff]; simpa [Nat.blt_eq] using h16
      rw [e, cond_false, pay341_apply, key 2 (by show 2 = _; omega)]

/-- The second result: plane `p` of 16, position `t` of all, lane `l`. -/
theorem outG_apply (p : Fin 16) (t : Fin 16384) (l : Fin 128) :
    (outG m c : FVec Ideal S16x16384x128 .f32) (ix3 p t l)
      = proj m c ⟨t.val / 4096, by omega⟩ ⟨t.val % 4096, by omega⟩ ⟨3072 + 128 * p.val + l.val, by omega⟩ := by
  have hp := p.isLt; have ht := t.isLt; have hl := l.isLt
  show ggroup c (xspec c (V m c main_v0) ⟨t.val / 256, by omega⟩) (wIn c (V m c main_v2)) p.val
    (InProj.ix2 ⟨t.val % 256, by omega⟩ ⟨128 * (p.val % 8) + l.val, by omega⟩) = _
  rw [ix2_eq]
  have key : ∀ g : Fin 5, g.val = 3 + p.val / 8 →
      dots (xspec c (V m c main_v0) ⟨t.val / 256, by omega⟩) (wcols c (wIn c (V m c main_v2)) g)
        ⟨t.val % 256, by omega⟩ ⟨128 * (p.val % 8) + l.val, by omega⟩
      = proj m c ⟨t.val / 4096, by omega⟩ ⟨t.val % 4096, by omega⟩ ⟨3072 + 128 * p.val + l.val, by omega⟩ := by
    intro g hg
    refine dots_eq m c _ _ g _ _ _ _ ?_ ?_ ?_
    · show t.val / 4096 = (256 * (t.val / 256) + t.val % 256) / 4096; omega
    · show t.val % 4096 = (256 * (t.val / 256) + t.val % 256) % 4096; omega
    · show 3072 + 128 * p.val + l.val = 1024 * g.val + (128 * (p.val % 8) + l.val); omega
  unfold ggroup
  by_cases h8 : p.val < 8
  · have e : Nat.blt p.val 8 = true := by simpa [Nat.blt_eq] using h8
    rw [e, cond_true, pay511_apply, key 3 (by show 3 = _; omega)]
  · have e : Nat.blt p.val 8 = false := by rw [Bool.eq_false_iff]; simpa [Nat.blt_eq] using h8
    rw [e, cond_false, pay511_apply, key 4 (by show 4 = _; omega)]

end Cert.Proof.Values

end
-- ==== Proof.Reference.lean ====
/-
  What the reference's two results hold over the extended reals, index by index: the same products as the kernel's.
-/
module

public import proofs.«01_k».proof.Proof.Value
public import proofs.«01_k».proof.Proof.Gen.ReferenceIdeal.Run

@[expose] public section

noncomputable section

namespace Cert.Proof.Values

open Cert.ReferenceIdeal Cert.ReferenceIdeal.Gen
open Idealize.ShloMosaic
open Idealize.ShloMosaic.TcCoe Idealize.ShloMosaic.Tactic

/-- The whole projection, as the host multiplies it out. -/
def hostProj (X : FVec Ideal S4x4096x2048 .f32) (W : FVec Ideal S1x2048x5120 .f32) : FVec Ideal S4x4096x5120 .f32 :=
  Host.dotGeneral dot_S4x4096x2048_S2048x5120_S4x4096x5120_2_0_01_1_n_n none X (shapeCast S2048x5120 W shapeCasts_S1x2048x5120_S2048x5120)

/-- A group of 1024 columns in planes, the positions of a class together. -/
def classes (x : FVec Ideal S4x4096x1024 .f32) : FVec Ideal S8x4x16x256x128 .f32 :=
  transpose S8x4x16x256x128 [3, 0, 2, 1, 4] (shapeCast S4x256x16x8x128 x shapeCasts_S4x4096x1024_S4x256x16x8x128) transposes_S4x256x16x8x128_S8x4x16x256x128_3_0_2_1_4
/-- A group of 1024 columns in planes, the positions in order. -/
def planes (x : FVec Ideal S4x4096x1024 .f32) : FVec Ideal S8x16384x128 .f32 :=
  transpose S8x16384x128 [1, 0, 2] (shapeCast S16384x8x128 x shapeCasts_S4x4096x1024_S16384x8x128) transposes_S16384x8x128_S8x16384x128_1_0_2

def refQ (X : FVec Ideal S4x4096x2048 .f32) (W : FVec Ideal S1x2048x5120 .f32) : FVec Ideal S24x4x16x256x128 .f32 :=
  concatenate S24x4x16x256x128 0
    [⟨S8x4x16x256x128, classes (mulf (mulf (extractStridedSlice S4x4096x1024 ![0, 0, 0] (hostProj X W) slices_S4x4096x5120_S4x4096x1024_0_0_0)
        (broadcastInDim S4x4096x1024 ![] bcast_S_S4x4096x1024 (constant S_ .f32 0x3E000000#32)))
        (broadcastInDim S4x4096x1024 ![] bcast_S_S4x4096x1024 (constant S_ .f32 0x3FB8AA3B#32)))⟩,
     ⟨S8x4x16x256x128, classes (extractStridedSlice S4x4096x1024 ![0, 0, 1024] (hostProj X W) slices_S4x4096x5120_S4x4096x1024_0_0_1024)⟩,
     ⟨S8x4x16x256x128, classes (extractStridedSlice S4x4096x1024 ![0, 0, 2048] (hostProj X W) slices_S4x4096x5120_S4x4096x1024_0_0_2048)⟩]
    concatenates_S8x4x16x256x128_S8x4x16x256x128_S8x4x16x256x128_S24x4x16x256x128_d0

def refG (X : FVec Ideal S4x4096x2048 .f32) (W : FVec Ideal S1x2048x5120 .f32) : FVec Ideal S16x16384x128 .f32 :=
  concatenate S16x16384x128 0
    [⟨S8x16384x128, planes (extractStridedSlice S4x4096x1024 ![0, 0, 3072] (hostProj X W) slices_S4x4096x5120_S4x4096x1024_0_0_3072)⟩,
     ⟨S8x16384x128, planes (extractStridedSlice S4x4096x1024 ![0, 0, 4096] (hostProj X W) slices_S4x4096x5120_S4x4096x1024_0_0_4096)⟩]
    concatenates_S8x16384x128_S8x16384x128_S16x16384x128_d0

theorem hostProj_apply (X : FVec Ideal S4x4096x2048 .f32) (W : FVec Ideal S1x2048x5120 .f32) (b : Fin 4) (t : Fin 4096) (e : Fin 5120) :
    hostProj X W (ix3 b t e) = ∑ d : Fin 2048, (X (ix3 b t d) : EReal) * W (ix3 (0 : Fin 1) d e) := by
  pointwise [hostProj]

theorem classes_apply (x : FVec Ideal S4x4096x1024 .f32) (p : Fin 8) (b : Fin 4) (r : Fin 16) (i : Fin 256) (l : Fin 128) :
    classes x (ix5 p b r i l) = x (ix3 b (⟨16 * i.val + r.val, by omega⟩ : Fin 4096) (⟨128 * p.val + l.val, by omega⟩ : Fin 1024)) := by
  pointwise [classes]
  simp only [Nat.mul_comm]
theorem planes_apply (x : FVec Ideal S4x4096x1024 .f32) (p : Fin 8) (t : Fin 16384) (l : Fin 128) :
    planes x (ix3 p t l) = x (ix3 (⟨t.val / 4096, by omega⟩ : Fin 4) (⟨t.val % 4096, by omega⟩ : Fin 4096) (⟨128 * p.val + l.val, by omega⟩ : Fin 1024)) := by
  pointwise [planes]
  simp only [Nat.mul_comm]

/-- The kernel's one factor is the product of the reference's two, exactly: the first is a power of two. -/
theorem scale : Ideal.ofBits .f32 0x3E000000#32 * Ideal.ofBits .f32 0x3FB8AA3B#32 = Ideal.ofBits .f32 0x3E38AA3B#32 := by
  simp only [Ideal.ofBits, Ideal.ieee]
  simp [-EReal.coe_mul]
  rw [← EReal.coe_mul]
  norm_num

/-- A column of the projection, by its position in its group. -/
theorem column (X : FVec Ideal S4x4096x2048 .f32) (W : FVec Ideal S1x2048x5120 .f32) (b : Fin 4) (t : Fin 4096) (e e' : Fin 5120) (h : e.val = e'.val) :
    hostProj X W (ix3 b t e) = ∑ d : Fin 2048, (X (ix3 b t d) : EReal) * W (ix3 (0 : Fin 1) d e') := by
  rw [hostProj_apply, Fin.ext h]

theorem refQ_apply (X : FVec Ideal S4x4096x2048 .f32) (W : FVec Ideal S1x2048x5120 .f32) (p : Fin 24) (b : Fin 4) (r : Fin 16) (i : Fin 256) (l : Fin 128) :
    refQ X W (ix5 p b r i l)
      = if p.val < 8 then (∑ d : Fin 2048, (X (ix3 b ⟨16 * i.val + r.val, by omega⟩ d) : EReal) * W (ix3 (0 : Fin 1) d ⟨128 * p.val + l.val, by omega⟩)) * Ideal.ofBits .f32 0x3E38AA3B#32
        else ∑ d : Fin 2048, (X (ix3 b ⟨16 * i.val + r.val, by omega⟩ d) : EReal) * W (ix3 (0 : Fin 1) d ⟨128 * p.val + l.val, by omega⟩) := by
  have hp := p.isLt; have hl := l.isLt
  pointwise [refQ]
  by_cases h8 : p.val < 8
  · rw [dif_pos h8, if_pos h8, classes_apply]
    pointwise
    rw [column X W b _ _ (⟨128 * p.val + l.val, by omega⟩ : Fin 5120) (by simp), mul_assoc, scale]
  · rw [dif_neg h8, if_neg h8]
    by_cases h16 : p.val - 8 < 8
    · rw [dif_pos h16, classes_apply]
      pointwise
      exact column X W b _ _ _ (by simp; omega)
    · rw [dif_neg h16, classes_apply]
      pointwise
      exact column X W b _ _ _ (by simp; omega)

theorem refG_apply (X : FVec Ideal S4x4096x2048 .f32) (W : FVec Ideal S1x2048x5120 .f32) (p : Fin 16) (t : Fin 16384) (l : Fin 128) :
    refG X W (ix3 p t l)
      = ∑ d : Fin 2048, (X (ix3 (⟨t.val / 4096, by omega⟩ : Fin 4) (⟨t.val % 4096, by omega⟩ : Fin 4096) d) : EReal) * W (ix3 (0 : Fin 1) d ⟨3072 + 128 * p.val + l.val, by omega⟩) := by
  have hp := p.isLt; have hl := l.isLt
  pointwise [refG]
  by_cases h8 : p.val < 8
  · rw [dif_pos h8, planes_apply]
    pointwise
    exact column X W _ _ _ _ (by simp; omega)
  · rw [dif_neg h8, planes_apply]
    pointwise
    exact column X W _ _ _ _ (by simp; omega)

/-! ## The two sides -/

variable (m : (ℓ : Loc Cert.KernelIdeal.nD Cert.KernelIdeal.τ Cert.KernelIdeal.sig) → Buf (Elt Ideal) ℓ) (c : Dev Cert.KernelIdeal.nD)

theorem outQ_eq : (InProj.outQ m c : FVec Ideal S24x4x16x256x128 .f32) = refQ (X₀ m c) (W₀ m c) := by
  funext j
  idx_vars j
  exact (outQ_apply m c _ _ _ _ _).trans (refQ_apply _ _ _ _ _ _ _).symm
theorem outG_eq : (InProj.outG m c : FVec Ideal S16x16384x128 .f32) = refG (X₀ m c) (W₀ m c) := by
  funext j
  idx_vars j
  exact (outG_apply m c _ _ _).trans (refG_apply _ _ _ _ _).symm

end Cert.Proof.Values

end
-- ==== Proof.OutSame.lean ====
/-
  The output projection's kernel as printed for the machine's values and as printed for the ideal ones is one program
  over any float values: the same body, the same table of bodies, the same @main.
-/
module

public import proofs.«01_k».proof.Proof.Gen.Kernel2
public import proofs.«01_k».proof.Proof.Gen.Kernel2Ideal

@[expose] public section

namespace Cert.Proof.OutProj

open Idealize.ShloMosaic Idealize.SL.Sem

variable {F : FTy → Type} [FloatOps F]

set_option maxHeartbeats 4000000 in
/-- The table's one body, processor by processor and label by label. -/
theorem same_bodies : Cert.Kernel2.defs₀ (F := F) = Cert.Kernel2Ideal.defs₀ (F := F) :=
  funext fun p => match p with
  | .tc => funext fun l => match l with
    | 0 => funext fun _ => rfl
    | ⟨_ + 1, h⟩ => absurd h (Nat.not_lt.2 (Nat.le_add_left _ _))
  | .scScalar _ => rfl
  | .scVector _ _ => rfl

theorem same_defs : Cert.Kernel2.defs (F := F) = Cert.Kernel2Ideal.defs (F := F) :=
  congrArg (Pipeline.defs (Kernel2.pcfgs (F := F))) same_bodies

set_option maxHeartbeats 4000000 in
theorem same_main : Cert.Kernel2.main (F := F) = Cert.Kernel2Ideal.main (F := F) := rfl

end Cert.Proof.OutProj

end
-- ==== Proof.OutRows.lean ====
/-
  The arithmetic of the output projection's kernel, index by index over the extended reals: a row of the layer norm, a
  root-mean-square norm of a row, and a block of 256 columns of the product. The printed kernel writes each of
  these out several times, at even and at odd grid points; all of them are the same function.
-/
module

public import proofs.«01_k».proof.Proof.Gen.Kernel2Ideal.Skeleton
public import Idealize.ShloMosaic.Lib.Pointwise

@[expose] public section

noncomputable section

namespace Cert.Proof.OutProj

open Cert.Kernel2Ideal Cert.Kernel2Ideal.Gen
open Idealize.ShloMosaic
open Idealize.ShloMosaic.TcCoe Idealize.ShloMosaic.Tactic

/-! ## The repeated pieces of the body are the same functions -/

section Same
variable {F : FTy → Type} [FloatOps F]

/-- The layer norm of 64 rows. -/
abbrev lnRows (z : Vec F S64x2048 .f32) (g b : Vec F S1x2048 .f32) : FVec F S64x2048 .f32 := k0_pay15 z g b

/-- 256 columns of the scaled input plus the product of the normalised attention and the recurrent branch with the two
halves of the weights' columns. -/
abbrev mixCols (a r : FVec F S256x1024 .bf16) (wa wr : Vec F S1024x256 .bf16) (x : Vec F S256x256 .f32) : FVec F S256x256 .f32 :=
  k0_pay14 a r wa wr x

/-- The normalised attention, the heads side by side. -/
abbrev attnRows (h0 h1 h2 h3 h4 h5 h6 h7 : Vec F S1x256x128 .f32) (g : Vec F S1x1024 .f32) : FVec F S256x1024 .bf16 :=
  k0_pay6 (k0_pay5 h0 h1 h2 h3 h4 h5 h6 h7 g)

/-- The recurrent branch, the heads side by side. -/
abbrev recRows (h0 h1 h2 h3 h4 h5 h6 h7 : Vec F S1x256x128 .f32) : FVec F S256x1024 .bf16 := k0_pay7 h0 h1 h2 h3 h4 h5 h6 h7

end Same

/-! ## What they hold at an index -/

/-- The layer norm of a row `z` at column `c`, under the gain `g` and the bias `b` of that column. -/
def normAt (z : Fin 2048 → EReal) (g b : EReal) (c : Fin 2048) : EReal :=
  (z c - Ideal.div (∑ k, z k) (Ideal.ofBits .f32 0x45000000#32))
      * Ideal.rsqrt (Ideal.div (∑ k, (z k - Ideal.div (∑ k, z k) (Ideal.ofBits .f32 0x45000000#32))
            * (z k - Ideal.div (∑ k, z k) (Ideal.ofBits .f32 0x45000000#32))) (Ideal.ofBits .f32 0x45000000#32)
          + Ideal.ofBits .f32 0x3727C5AC#32) * g + b

/-- The root-mean-square norm of a row `a` at position `k`, under the gain `g` of that position. -/
def rmsAt (a : Fin 1024 → EReal) (g : EReal) (k : Fin 1024) : EReal :=
  a k * Ideal.rsqrt (Ideal.div (∑ j, a j * a j) (Ideal.ofBits .f32 0x44800000#32) + Ideal.ofBits .f32 0x358637BD#32) * g

/-- The row before its layer norm: the scaled input, plus the products of the normalised attention `a` and of the recurrent
branch `r` with a column of each half of the weights. -/
def mixAt (a r wa wr : Fin 1024 → EReal) (x : EReal) : EReal :=
  Ideal.ofBits .f32 0x3F9837F0#32 * x + (∑ k, a k * wa k + ∑ k, r k * wr k)

theorem lnRows_apply (z : Vec Ideal S64x2048 .f32) (g b : Vec Ideal S1x2048 .f32) (i : Fin 64) (c : Fin 2048) :
    lnRows z g b (ix2 i c) = normAt (fun k => z (ix2 i k)) (g (ix2 0 c)) (b (ix2 0 c)) c := by
  pointwise [lnRows, k0_pay15]
  rfl

theorem mixCols_apply (a r : FVec Ideal S256x1024 .bf16) (wa wr : Vec Ideal S1024x256 .bf16) (x : Vec Ideal S256x256 .f32) (i c : Fin 256) :
    mixCols a r wa wr x (ix2 i c)
      = mixAt (fun k => a (ix2 i k)) (fun k => r (ix2 i k)) (fun k => wa (ix2 k c)) (fun k => wr (ix2 k c)) (x (ix2 i c)) := by
  pointwise [mixCols, k0_pay14]
  rfl

/-- Position `k` of a row of 1024 is lane `k % 128` of head `k / 128`. -/
def headAt (x : Vec Ideal S8x256x128 .f32) (i : Fin 256) (k : Fin 1024) : EReal :=
  x (ix3 (⟨k.val / 128, by omega⟩ : Fin 8) i (⟨k.val % 128, by omega⟩ : Fin 128))

/-- One head of eight. -/
def headOf (x : Vec Ideal S8x256x128 .f32) (h : Fin 8) : Vec Ideal S1x256x128 .f32 := fun j => x (ix3 h (j 1) (j 2))

theorem headOf_apply (x : Vec Ideal S8x256x128 .f32) (h : Fin 8) (z : Fin 1) (i : Fin 256) (l : Fin 128) :
    headOf x h (ix3 z i l) = x (ix3 h i l) := rfl

theorem headAt_eq (x : Vec Ideal S8x256x128 .f32) (i : Fin 256) (k : Fin 1024) (h : Fin 8) (l : Fin 128)
    (e : k.val = 128 * h.val + l.val) : x (ix3 h i l) = headAt x i k := by
  unfold headAt
  rw [show (⟨k.val / 128, by omega⟩ : Fin 8) = h from Fin.ext (by show k.val / 128 = h.val; omega),
    show (⟨k.val % 128, by omega⟩ : Fin 128) = l from Fin.ext (by show k.val % 128 = l.val; omega)]

/-- The heads side by side, by cases on the head, hold the lanes in order. -/
theorem heads_eq (x : Vec Ideal S8x256x128 .f32) (i : Fin 256) (k : Fin 1024) :
    (if h : k.val < 128 then x (ix3 0 i ⟨k.val, h⟩)
      else if h : k.val - 128 < 128 then x (ix3 1 i ⟨k.val - 128, h⟩)
      else if h : k.val - 128 - 128 < 128 then x (ix3 2 i ⟨k.val - 128 - 128, h⟩)
      else if h : k.val - 128 - 128 - 128 < 128 then x (ix3 3 i ⟨k.val - 128 - 128 - 128, h⟩)
      else if h : k.val - 128 - 128 - 128 - 128 < 128 then x (ix3 4 i ⟨k.val - 128 - 128 - 128 - 128, h⟩)
      else if h : k.val - 128 - 128 - 128 - 128 - 128 < 128 then x (ix3 5 i ⟨k.val - 128 - 128 - 128 - 128 - 128, h⟩)
      else if h : k.val - 128 - 128 - 128 - 128 - 128 - 128 < 128 then x (ix3 6 i ⟨k.val - 128 - 128 - 128 - 128 - 128 - 128, h⟩)
      else x (ix3 7 i ⟨k.val - 128 - 128 - 128 - 128 - 128 - 128 - 128, by omega⟩)) = headAt x i k := by
  have hk := k.isLt
  split_ifs <;> (apply headAt_eq x i k; simp; try omega)

theorem recRows_apply (x : Vec Ideal S8x256x128 .f32) (i : Fin 256) (k : Fin 1024) :
    recRows (headOf x 0) (headOf x 1) (headOf x 2) (headOf x 3) (headOf x 4) (headOf x 5) (headOf x 6) (headOf x 7) (ix2 i k)
      = headAt x i k := by
  pointwise [recRows, k0_pay7, headOf_apply]
  exact heads_eq x i k

/-- The same norm written over the row as it stands. -/
theorem attnRows_rms (h0 h1 h2 h3 h4 h5 h6 h7 : Vec Ideal S1x256x128 .f32) (g : Vec Ideal S1x1024 .f32) (i : Fin 256) (k : Fin 1024) :
    attnRows h0 h1 h2 h3 h4 h5 h6 h7 g (ix2 i k)
      = rmsAt (fun j => recRows h0 h1 h2 h3 h4 h5 h6 h7 (ix2 i j)) (g (ix2 0 k)) k := by
  unfold rmsAt
  pointwise [attnRows, k0_pay6, k0_pay5, recRows, k0_pay7]

theorem attnRows_apply (x : Vec Ideal S8x256x128 .f32) (g : Vec Ideal S1x1024 .f32) (i : Fin 256) (k : Fin 1024) :
    attnRows (headOf x 0) (headOf x 1) (headOf x 2) (headOf x 3) (headOf x 4) (headOf x 5) (headOf x 6) (headOf x 7) g (ix2 i k)
      = rmsAt (headAt x i) (g (ix2 0 k)) k := by
  rw [attnRows_rms]
  congr 1
  funext j
  exact recRows_apply x i j

end Cert.Proof.OutProj

end
-- ==== Proof.OutTiles.lean ====
/-
  One grid point of the output projection's kernel: the rows it computes for its own block before their layer norm, and
  the layer norm of the rows the point before left. Each is stored in pieces, eight blocks of 256 columns and
  four blocks of 64 rows, and every piece is that block of one function.
-/
module

public import proofs.«01_k».proof.Proof.OutRows
public import Idealize.ShloMosaic.Lib.Pipeline.ValueKit

@[expose] public section

noncomputable section

namespace Cert.Proof.OutProj

open Cert.Kernel2Ideal Cert.Kernel2Ideal.Gen
open Idealize.ShloMosaic
open Idealize.ShloMosaic.TcCoe Idealize.ShloMosaic.Tactic

/-! ## The printed pieces, each the same function -/

section Same
variable {F : FTy → Type} [FloatOps F]

theorem same_20 (a r : FVec F S256x1024 .bf16) (wa wr : Vec F S1024x256 .bf16) (x : Vec F S256x256 .f32) : k0_pay20 r (k0_pay18 a wa) (k0_pay19 wr) x = mixCols a r wa wr x := rfl
theorem same_25 (a r : FVec F S256x1024 .bf16) (wa wr : Vec F S1024x256 .bf16) (x : Vec F S256x256 .f32) : k0_pay25 a r wa wr x = mixCols a r wa wr x := rfl
theorem same_32 (a r : FVec F S256x1024 .bf16) (wa wr : Vec F S1024x256 .bf16) (x : Vec F S256x256 .f32) : k0_pay32 a r wa wr x = mixCols a r wa wr x := rfl
theorem same_35 (a r : FVec F S256x1024 .bf16) (wa wr : Vec F S1024x256 .bf16) (x : Vec F S256x256 .f32) : k0_pay35 a r wa wr x = mixCols a r wa wr x := rfl
theorem same_36 (a r : FVec F S256x1024 .bf16) (wa wr : Vec F S1024x256 .bf16) (x : Vec F S256x256 .f32) : k0_pay36 a r wa wr x = mixCols a r wa wr x := rfl
theorem same_60 (a r : FVec F S256x1024 .bf16) (wa wr : Vec F S1024x256 .bf16) (x : Vec F S256x256 .f32) : k0_pay60 a r wa wr x = mixCols a r wa wr x := rfl
theorem same_3 (a r : FVec F S256x1024 .bf16) (wa wr : Vec F S1024x256 .bf16) (x : Vec F S256x256 .f32) : k0_pay3 a r (k0_pay61 wa) (constant S256x256 .f32 0x00000000#32) wr x = mixCols a r wa wr x := rfl
theorem same_71 (a r : FVec F S256x1024 .bf16) (wa wr : Vec F S1024x256 .bf16) (x : Vec F S256x256 .f32) : k0_pay71 a r wa wr x = mixCols a r wa wr x := rfl
theorem same_77 (a r : FVec F S256x1024 .bf16) (wa wr : Vec F S1024x256 .bf16) (x : Vec F S256x256 .f32) : k0_pay77 r (k0_pay75 a wa) (k0_pay76 wr) x = mixCols a r wa wr x := rfl
theorem same_82 (a r : FVec F S256x1024 .bf16) (wa wr : Vec F S1024x256 .bf16) (x : Vec F S256x256 .f32) : k0_pay82 a r wa wr x = mixCols a r wa wr x := rfl
theorem same_89 (a r : FVec F S256x1024 .bf16) (wa wr : Vec F S1024x256 .bf16) (x : Vec F S256x256 .f32) : k0_pay89 a r wa wr x = mixCols a r wa wr x := rfl
theorem same_92 (a r : FVec F S256x1024 .bf16) (wa wr : Vec F S1024x256 .bf16) (x : Vec F S256x256 .f32) : k0_pay92 a r wa wr x = mixCols a r wa wr x := rfl
theorem same_93 (a r : FVec F S256x1024 .bf16) (wa wr : Vec F S1024x256 .bf16) (x : Vec F S256x256 .f32) : k0_pay93 a r wa wr x = mixCols a r wa wr x := rfl
theorem same_117 (a r : FVec F S256x1024 .bf16) (wa wr : Vec F S1024x256 .bf16) (x : Vec F S256x256 .f32) : k0_pay117 a r wa wr x = mixCols a r wa wr x := rfl
theorem same_4 (a r : FVec F S256x1024 .bf16) (wa wr : Vec F S1024x256 .bf16) (x : Vec F S256x256 .f32) : k0_pay4 a r (k0_pay118 wa) (constant S256x256 .f32 0x00000000#32) wr x = mixCols a r wa wr x := rfl
theorem same_11 (z : Vec F S64x2048 .f32) (g b : Vec F S1x2048 .f32) : k0_pay11 z (k0_pay8 g) (k0_pay9 b) (k0_pay10 z) = lnRows z g b := rfl
theorem same_21 (z : Vec F S64x2048 .f32) (g b : Vec F S1x2048 .f32) : k0_pay21 z g b = lnRows z g b := rfl
theorem same_30 (z : Vec F S64x2048 .f32) (g b : Vec F S1x2048 .f32) : k0_pay30 (k0_pay26 g) (k0_pay27 b) (k0_pay28 z) (k0_pay29 z) = lnRows z g b := rfl
theorem same_72 (z : Vec F S64x2048 .f32) (g b : Vec F S1x2048 .f32) : k0_pay72 z g b = lnRows z g b := rfl
theorem same_68 (z : Vec F S64x2048 .f32) (g b : Vec F S1x2048 .f32) : k0_pay68 z (k0_pay65 g) (k0_pay66 b) (k0_pay67 z) = lnRows z g b := rfl
theorem same_78 (z : Vec F S64x2048 .f32) (g b : Vec F S1x2048 .f32) : k0_pay78 z g b = lnRows z g b := rfl
theorem same_87 (z : Vec F S64x2048 .f32) (g b : Vec F S1x2048 .f32) : k0_pay87 (k0_pay83 g) (k0_pay84 b) (k0_pay85 z) (k0_pay86 z) = lnRows z g b := rfl
theorem same_63 (h0 h1 h2 h3 h4 h5 h6 h7 : Vec F S1x256x128 .f32) (g : Vec F S1x1024 .f32) : k0_pay63 (k0_pay62 h0 h1 h2 h3 h4 h5 h6 h7 g) = attnRows h0 h1 h2 h3 h4 h5 h6 h7 g := rfl
theorem same_64 (h0 h1 h2 h3 h4 h5 h6 h7 : Vec F S1x256x128 .f32) : k0_pay64 h0 h1 h2 h3 h4 h5 h6 h7 = recRows h0 h1 h2 h3 h4 h5 h6 h7 := rfl

end Same

/-! ## The two functions of a point -/

/-- The rows of a block before their layer norm. -/
def zBlk (x0 x1 : Vec Ideal S8x256x128 .f32) (x2 : Vec Ideal S256x2048 .f32) (x3 : Vec Ideal S1x1024 .f32) (x4 : Vec Ideal S2048x2048 .bf16) :
    Vec Ideal S256x2048 .f32 := fun j =>
  mixAt (fun k => rmsAt (headAt x0 (j 0)) (x3 (ix2 0 k)) k) (headAt x1 (j 0))
    (fun k => x4 (ix2 (⟨k.val, by omega⟩ : Fin 2048) (j 1))) (fun k => x4 (ix2 (⟨1024 + k.val, by omega⟩ : Fin 2048) (j 1))) (x2 j)

/-- The layer norm of a block's rows. -/
def lnBlk (z : Vec Ideal S256x2048 .f32) (g b : Vec Ideal S1x2048 .f32) : Vec Ideal S256x2048 .f32 := fun j =>
  normAt (fun k => z (ix2 (j 0) k)) (g (ix2 0 (j 1))) (b (ix2 0 (j 1))) (j 1)

/-! ## The loads -/

theorem ld_head (X : Vec Ideal S8x256x128 .f32) (n : Nat) (h : Fin 8) (hn : n = h.val) (inb) :
    View.ld X (Rect.unit ![n, 0, 0] ![1, 256, 128] inb) = headOf X h := by
  subst hn
  funext j
  refine View.ld_unit_apply_of X _ _ inb j (ix3 h (j 1) (j 2)) fun a => ?_
  have := (j 0).isLt
  fin_cases a
  · show h.val = h.val + (j 0).val; have : (j 0).val < 1 := (j 0).isLt; omega
  · show (j 1).val = 0 + (j 1).val; omega
  · show (j 2).val = 0 + (j 2).val; omega

theorem ld_cols (X : Vec Ideal S2048x2048 .bf16) (n o : Nat) (inb) (k : Fin 1024) (c : Fin 256) (k' c' : Fin 2048)
    (hk : k'.val = n + k.val) (hc : c'.val = o + c.val) :
    View.ld X (Rect.unit ![n, o] ![1024, 256] inb) (ix2 k c) = X (ix2 k' c') := by
  refine View.ld_unit_apply_of X _ _ inb (ix2 k c) (ix2 k' c') fun a => ?_
  fin_cases a
  · exact hk
  · exact hc

/-! ## The pieces -/

/-- The block of columns from `o` on. -/
theorem mix_piece (x0 x1 : Vec Ideal S8x256x128 .f32) (x2 : Vec Ideal S256x2048 .f32) (x3 : Vec Ideal S1x1024 .f32) (x4 : Vec Ideal S2048x2048 .bf16)
    (o : Nat) (i4 i4' i2) (x : S256x256.Idx) (y : S256x2048.Idx) (h0 : (y 0).val = (x 0).val) (h1 : (y 1).val = o + (x 1).val) :
    mixCols (attnRows (headOf x0 0) (headOf x0 1) (headOf x0 2) (headOf x0 3) (headOf x0 4) (headOf x0 5) (headOf x0 6) (headOf x0 7) x3)
        (recRows (headOf x1 0) (headOf x1 1) (headOf x1 2) (headOf x1 3) (headOf x1 4) (headOf x1 5) (headOf x1 6) (headOf x1 7))
        (View.ld x4 (Rect.unit ![0, o] ![1024, 256] i4)) (View.ld x4 (Rect.unit ![1024, o] ![1024, 256] i4'))
        (View.ld x2 (Rect.unit ![0, o] ![256, 256] i2)) x
      = zBlk x0 x1 x2 x3 x4 y := by
  obtain ⟨i, c, rfl⟩ : ∃ (i : Fin 256) (c : Fin 256), x = ix2 i c := ⟨x 0, x 1, eq_ix2 x⟩
  obtain ⟨i', c', rfl⟩ : ∃ (i' : Fin 256) (c' : Fin 2048), y = ix2 i' c' := ⟨y 0, y 1, eq_ix2 y⟩
  obtain rfl : i' = i := Fin.ext h0
  rw [mixCols_apply]
  unfold zBlk
  simp only [attnRows_apply, recRows_apply]
  have e2 : View.ld x2 (Rect.unit ![0, o] ![256, 256] i2) (ix2 i' c) = x2 (ix2 i' c') :=
    View.ld_unit_apply_of x2 _ _ i2 (ix2 i' c) (ix2 i' c') fun a => by
      fin_cases a
      · show i'.val = 0 + i'.val; omega
      · exact h1
  have ea : ∀ k : Fin 1024, View.ld x4 (Rect.unit ![0, o] ![1024, 256] i4) (ix2 k c) = x4 (ix2 (⟨k.val, by omega⟩ : Fin 2048) c') :=
    fun k => ld_cols x4 0 o i4 k c _ c' (by show k.val = 0 + k.val; omega) h1
  have eb : ∀ k : Fin 1024, View.ld x4 (Rect.unit ![1024, o] ![1024, 256] i4') (ix2 k c) = x4 (ix2 (⟨1024 + k.val, by omega⟩ : Fin 2048) c') :=
    fun k => ld_cols x4 1024 o i4' k c _ c' rfl h1
  simp only [ea, eb, e2]
  rfl

/-- The block of rows from `o` on. -/
theorem ln_piece (z : Vec Ideal S256x2048 .f32) (g b : Vec Ideal S1x2048 .f32) (o : Nat) (inb) (x : S64x2048.Idx) (y : S256x2048.Idx)
    (h0 : (y 0).val = o + (x 0).val) (h1 : (y 1).val = (x 1).val) :
    lnRows (View.ld z (Rect.unit ![o, 0] ![64, 2048] inb)) g b x = lnBlk z g b y := by
  obtain ⟨i, c, rfl⟩ : ∃ (i : Fin 64) (c : Fin 2048), x = ix2 i c := ⟨x 0, x 1, eq_ix2 x⟩
  obtain ⟨i', c', rfl⟩ : ∃ (i' : Fin 256) (c' : Fin 2048), y = ix2 i' c' := ⟨y 0, y 1, eq_ix2 y⟩
  obtain rfl : c' = c := Fin.ext h1
  rw [lnRows_apply]
  unfold lnBlk
  have e : ∀ k : Fin 2048, View.ld z (Rect.unit ![o, 0] ![64, 2048] inb) (ix2 i k) = z (ix2 i' k) := fun k =>
    View.ld_unit_apply_of z _ _ inb (ix2 i k) (ix2 i' k) fun a => by
      fin_cases a
      · exact h0
      · show k.val = 0 + k.val; omega
  simp only [e]
  rfl

end Cert.Proof.OutProj

end
-- ==== Proof.OutCases.lean ====
/-
  What a grid point of the output projection's kernel leaves, in each of its three cases: at the first point, at the odd
  points and at the later even points. The two scratch buffers of rows take turns: an even point writes the first and
  normalizes the second's rows, an odd point the other way round.
-/
module

public import proofs.«01_k».proof.Proof.OutTiles
public import proofs.«01_k».proof.Proof.Gen.Kernel2Ideal.Frame

@[expose] public section

set_option maxRecDepth 8000

noncomputable section

namespace Cert.Proof.OutProj

open Cert.Kernel2Ideal Cert.Kernel2Ideal.Gen
open Idealize.ShloMosaic
open Idealize.ShloMosaic.TcCoe Idealize.ShloMosaic.Tactic

variable (c : Dev nD) (i : grid0.Coords) (arg1 : Memref sig .tc .vmem S8x256x128 .f32) (harg1 : arg1.IsWhole) (arg2 :
    Memref sig .tc .vmem S8x256x128 .f32) (harg2 : arg2.IsWhole) (arg3 : Memref sig .tc .vmem S256x2048 .f32)
    (harg3 : arg3.IsWhole) (arg4 : Memref sig .tc .vmem S1x1024 .f32) (harg4 : arg4.IsWhole) (arg5 : Memref sig
    .tc .vmem S2048x2048 .bf16) (harg5 : arg5.IsWhole) (arg6 : Memref sig .tc .vmem S1x2048 .f32) (harg6 :
    arg6.IsWhole) (arg7 : Memref sig .tc .vmem S1x2048 .f32) (harg7 : arg7.IsWhole) (arg8 : Memref sig .tc .vmem
    S2048x128 .f32) (harg8 : arg8.IsWhole) (arg9 : Memref sig .tc .vmem S1x128 .f32) (harg9 : arg9.IsWhole) (arg10
    : Memref sig .tc .vmem S256x2048 .f32) (harg10 : arg10.IsWhole) (arg11 : Memref sig .tc .vmem S256x16x128
    .bf16) (harg11 : arg11.IsWhole) (arg12 : Memref sig .tc .vmem S8x256 .i32) (harg12 : arg12.IsWhole) (arg13 :
    Memref sig .tc .vmem S256x128 .f32) (harg13 : arg13.IsWhole) (arg14 : Memref sig .tc .vmem S8x128 .i32)
    (harg14 : arg14.IsWhole) (arg15 : Memref sig .tc .vmem S8x128 .f32) (harg15 : arg15.IsWhole) (arg16 : Memref
    sig .tc .vmem S256x2048 .f32) (harg16 : arg16.IsWhole) (arg17 : Memref sig .tc .vmem S256x2048 .f32) (harg17 :
    arg17.IsWhole)
variable (x0 x1 : Vec Ideal S8x256x128 .f32) (x2 : Vec Ideal S256x2048 .f32) (x3 : Vec Ideal S1x1024 .f32) (x4 : Vec Ideal S2048x2048 .bf16)
    (x5 x6 : Vec Ideal S1x2048 .f32) (x7 : Vec Ideal S2048x128 .f32) (x8 : Vec Ideal S1x128 .f32)

/-! ## The rows before their layer norm -/

theorem rows_A (hc0 : cond0_0 i) (hc1 : cond0_1 i) (hc2 : ¬cond0_2 i) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 = zBlk x0 x1 x2 x3 x4 := by
  funext y
  frame_out
  canon_tiles x h
  all_goals
    simp only [same_20, same_25, same_32, same_35, same_36, same_60, same_3, ld_head _ 0 0 rfl, ld_head _ 1 1 rfl, ld_head _ 2 2 rfl, ld_head _ 3 3 rfl, ld_head _ 4 4 rfl, ld_head _ 5 5 rfl, ld_head _ 6 6 rfl, ld_head _ 7 7 rfl]
    refine mix_piece x0 x1 x2 x3 x4 _ _ _ _ x y ?_ ?_ <;> omega

theorem rows_B (hc0 : ¬cond0_0 i) (hc1 : ¬cond0_1 i) (hc2 : cond0_2 i) (xs0 : Vec Ideal S8x128 .f32) (xs1 : Vec Ideal S256x2048 .f32) :
    sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xs0 xs1 = zBlk x0 x1 x2 x3 x4 := by
  funext y
  frame_out
  canon_tiles x h
  all_goals
    simp only [same_71, same_77, same_82, same_89, same_92, same_93, same_117, same_4, same_63, same_64, ld_head _ 0 0 rfl, ld_head _ 1 1 rfl, ld_head _ 2 2 rfl, ld_head _ 3 3 rfl, ld_head _ 4 4 rfl, ld_head _ 5 5 rfl, ld_head _ 6 6 rfl, ld_head _ 7 7 rfl]
    refine mix_piece x0 x1 x2 x3 x4 _ _ _ _ x y ?_ ?_ <;> omega

theorem rows_C (hc0 : ¬cond0_0 i) (hc1 : cond0_1 i) (hc2 : ¬cond0_2 i) (xs0 : Vec Ideal S8x128 .f32) (xs2 : Vec Ideal S256x2048 .f32) :
    sout0_C_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xs0 xs2 = zBlk x0 x1 x2 x3 x4 := by
  funext y
  frame_out
  canon_tiles x h
  all_goals
    simp only [same_20, same_25, same_32, same_35, same_36, same_60, same_3, ld_head _ 0 0 rfl, ld_head _ 1 1 rfl, ld_head _ 2 2 rfl, ld_head _ 3 3 rfl, ld_head _ 4 4 rfl, ld_head _ 5 5 rfl, ld_head _ 6 6 rfl, ld_head _ 7 7 rfl]
    refine mix_piece x0 x1 x2 x3 x4 _ _ _ _ x y ?_ ?_ <;> omega

/-! ## The layer norm of the rows of the point before -/

theorem norm_B (hc0 : ¬cond0_0 i) (hc1 : ¬cond0_1 i) (hc2 : cond0_2 i) (xs0 : Vec Ideal S8x128 .f32) (xs1 : Vec Ideal S256x2048 .f32) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xs0 xs1 = lnBlk xs1 x5 x6 := by
  funext y
  frame_out
  canon_tiles x h
  all_goals
    (try simp only [same_72, same_68, same_78, same_87])
    refine ln_piece _ _ _ _ _ x y ?_ ?_ <;> omega

theorem norm_C (hc0 : ¬cond0_0 i) (hc1 : cond0_1 i) (hc2 : ¬cond0_2 i) (xs0 : Vec Ideal S8x128 .f32) (xs2 : Vec Ideal S256x2048 .f32) :
    out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xs0 xs2 = lnBlk xs2 x5 x6 := by
  funext y
  frame_out
  canon_tiles x h
  all_goals
    (try simp only [same_11, same_21, same_30])
    refine ln_piece _ _ _ _ _ x y ?_ ?_ <;> omega

end Cert.Proof.OutProj

end
-- ==== Proof.OutReference.lean ====
/-
  The output projection's reference over the extended reals: what its result holds at a token and a column, as a function
  of the six arguments it reads.
-/
module

public import proofs.«01_k».proof.Proof.OutRows
public import proofs.«01_k».proof.Proof.Gen.Reference2Ideal.Run

@[expose] public section

noncomputable section

namespace Cert.Proof.OutProj

open Cert.Reference2Ideal Cert.Reference2Ideal.Gen
open Idealize.ShloMosaic
open Idealize.ShloMosaic.TcCoe Idealize.ShloMosaic.Tactic

/-! ## The value, by token and column -/

/-- Position `k` of token `(b, s)` of an array of heads: lane `k % 128` of head `k / 128`. -/
def tokenAt (x : FVec Ideal S8x4x4096x128 .f32) (b : Fin 4) (s : Fin 4096) (k : Fin 1024) : EReal :=
  x (ix4 (⟨k.val / 128, by omega⟩ : Fin 8) b s (⟨k.val % 128, by omega⟩ : Fin 128))

/-- The row of token `(b, s)` before its layer norm, at column `c`. -/
def mixOf (x : FVec Ideal S4x4096x2048 .f32) (attn rec : FVec Ideal S8x4x4096x128 .f32) (g : FVec Ideal S1x1024 .f32)
    (w : FVec Ideal S1x2048x2048 .f32) (b : Fin 4) (s : Fin 4096) (c : Fin 2048) : EReal :=
  mixAt (fun k => rmsAt (tokenAt attn b s) (g (ix2 0 k)) k) (tokenAt rec b s)
    (fun k => w (ix3 (0 : Fin 1) (⟨k.val, by omega⟩ : Fin 2048) c)) (fun k => w (ix3 (0 : Fin 1) (⟨1024 + k.val, by omega⟩ : Fin 2048) c))
    (x (ix3 b s c))

/-- The result at token `t` of 16384 and column `c`. -/
def resultAt (x : FVec Ideal S4x4096x2048 .f32) (attn rec : FVec Ideal S8x4x4096x128 .f32) (g : FVec Ideal S1x1024 .f32)
    (w : FVec Ideal S1x2048x2048 .f32) (lg lb : FVec Ideal S1x2048 .f32) (t : Fin 16384) (c : Fin 2048) : EReal :=
  normAt (mixOf x attn rec g w (⟨t.val / 4096, by omega⟩ : Fin 4) (⟨t.val % 4096, by omega⟩ : Fin 4096)) (lg (ix2 0 c)) (lb (ix2 0 c)) c

/-! ## The reference in stages -/

/-- The heads of every token side by side. -/
def hostHeads (x : FVec Ideal S8x4x4096x128 .f32) : FVec Ideal S4x4096x1024 .f32 :=
  shapeCast S4x4096x1024 (transpose S4x4096x8x128 [1, 2, 0, 3] x transposes_S8x4x4096x128_S4x4096x8x128_1_2_0_3) shapeCasts_S4x4096x8x128_S4x4096x1024

def hostRms (a : FVec Ideal S4x4096x1024 .f32) (g : FVec Ideal S1x1024 .f32) : FVec Ideal S4x4096x1024 .f32 :=
  mulf (mulf a (broadcastInDim S4x4096x1024 ![0, 1, 2] bcast_S4x4096x1_S4x4096x1024_0_1_2 (Host.rsqrt (addf
      (Host.divf (broadcastInDim S4x4096x1 ![0, 1] bcast_S4x4096_S4x4096x1_0_1 (Host.reduceAdd (mulf a a) (constant S_ .f32 0x00000000#32) reducesTo_S4x4096x1024_S4x4096_d2 h_S_))
        (broadcastInDim S4x4096x1 ![] bcast_S_S4x4096x1 (constant S_ .f32 0x44800000#32)))
      (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 (shapeCast S1024 g shapeCasts_S1x1024_S1024)))

def hostMix (x : FVec Ideal S4x4096x2048 .f32) (a r : FVec Ideal S4x4096x1024 .f32) (w : FVec Ideal S1x2048x2048 .f32) : FVec Ideal S4x4096x2048 .f32 :=
  addf (mulf (broadcastInDim S4x4096x2048 ![] bcast_S_S4x4096x2048 (constant S_ .f32 0x3F9837F0#32)) x)
    (Host.dotGeneral dot_S4x4096x2048_S2048x2048_S4x4096x2048_2_0_01_1_n_n none
      (concatenate S4x4096x2048 2 [⟨S4x4096x1024, a⟩, ⟨S4x4096x1024, r⟩] concatenates_S4x4096x1024_S4x4096x1024_S4x4096x2048_d2)
      (shapeCast S2048x2048 w shapeCasts_S1x2048x2048_S2048x2048))

def hostMean (z : FVec Ideal S4x4096x2048 .f32) : FVec Ideal S4x4096x1 .f32 :=
  Host.divf (broadcastInDim S4x4096x1 ![0, 1] bcast_S4x4096_S4x4096x1_0_1 (Host.reduceAdd z (constant S_ .f32 0x00000000#32) reducesTo_S4x4096x2048_S4x4096_d2 h_S_))
    (broadcastInDim S4x4096x1 ![] bcast_S_S4x4096x1 (constant S_ .f32 0x45000000#32))

def hostNorm (z : FVec Ideal S4x4096x2048 .f32) (g b : FVec Ideal S1x2048 .f32) : FVec Ideal S4x4096x2048 .f32 :=
  addf (mulf (mulf (subf z (broadcastInDim S4x4096x2048 ![0, 1, 2] bcast_S4x4096x1_S4x4096x2048_0_1_2 (hostMean z)))
      (broadcastInDim S4x4096x2048 ![0, 1, 2] bcast_S4x4096x1_S4x4096x2048_0_1_2 (Host.rsqrt (addf
        (hostMean (mulf (subf z (broadcastInDim S4x4096x2048 ![0, 1, 2] bcast_S4x4096x1_S4x4096x2048_0_1_2 (hostMean z)))
          (subf z (broadcastInDim S4x4096x2048 ![0, 1, 2] bcast_S4x4096x1_S4x4096x2048_0_1_2 (hostMean z)))))
        (broadcastInDim S4x4096x1 ![] bcast_S_S4x4096x1 (constant S_ .f32 0x3727C5AC#32))))))
      (broadcastInDim S4x4096x2048 ![0, 1, 2] bcast_S1x1x2048_S4x4096x2048_0_1_2 (broadcastInDim S1x1x2048 ![2] bcast_S2048_S1x1x2048_2 (shapeCast S2048 g shapeCasts_S1x2048_S2048))))
    (broadcastInDim S4x4096x2048 ![0, 1, 2] bcast_S1x1x2048_S4x4096x2048_0_1_2 (broadcastInDim S1x1x2048 ![2] bcast_S2048_S1x1x2048_2 (shapeCast S2048 b shapeCasts_S1x2048_S2048)))

/-- The reference's result. -/
def refOut (x : FVec Ideal S4x4096x2048 .f32) (attn rec : FVec Ideal S8x4x4096x128 .f32) (g : FVec Ideal S1x1024 .f32)
    (w : FVec Ideal S1x2048x2048 .f32) (lg lb : FVec Ideal S1x2048 .f32) : FVec Ideal S16384x2048 .f32 :=
  shapeCast S16384x2048 (hostNorm (hostMix x (hostRms (hostHeads attn) g) (hostHeads rec) w) lg lb) shapeCasts_S4x4096x2048_S16384x2048

theorem refOut_eq (m : (ℓ : Loc nD τ sig) → Buf (Elt Ideal) ℓ) (c : Dev nD) :
    Cert.Reference2Ideal.Value.res_main_v50 m c
      = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := rfl

/-! ## The stages at an index -/

theorem hostHeads_apply (x : FVec Ideal S8x4x4096x128 .f32) (b : Fin 4) (s : Fin 4096) (k : Fin 1024) :
    hostHeads x (ix3 b s k) = tokenAt x b s k := by
  unfold tokenAt
  pointwise [hostHeads]

theorem hostRms_apply (a : FVec Ideal S4x4096x1024 .f32) (g : FVec Ideal S1x1024 .f32) (b : Fin 4) (s : Fin 4096) (k : Fin 1024) :
    hostRms a g (ix3 b s k) = rmsAt (fun j => a (ix3 b s j)) (g (ix2 0 k)) k := by
  unfold rmsAt
  pointwise [hostRms]

theorem hostNorm_apply (z : FVec Ideal S4x4096x2048 .f32) (lg lb : FVec Ideal S1x2048 .f32) (b : Fin 4) (s : Fin 4096) (c : Fin 2048) :
    hostNorm z lg lb (ix3 b s c) = normAt (fun k => z (ix3 b s k)) (lg (ix2 0 c)) (lb (ix2 0 c)) c := by
  unfold normAt
  pointwise [hostNorm, hostMean]

theorem hostMix_apply (x : FVec Ideal S4x4096x2048 .f32) (a r : FVec Ideal S4x4096x1024 .f32) (w : FVec Ideal S1x2048x2048 .f32)
    (b : Fin 4) (s : Fin 4096) (c : Fin 2048) :
    hostMix x a r w (ix3 b s c)
      = mixAt (fun k => a (ix3 b s k)) (fun k => r (ix3 b s k)) (fun k => w (ix3 (0 : Fin 1) (⟨k.val, by omega⟩ : Fin 2048) c))
          (fun k => w (ix3 (0 : Fin 1) (⟨1024 + k.val, by omega⟩ : Fin 2048) c)) (x (ix3 b s c)) := by
  unfold mixAt
  pointwise [hostMix]

theorem refOut_apply (x : FVec Ideal S4x4096x2048 .f32) (attn rec : FVec Ideal S8x4x4096x128 .f32) (g : FVec Ideal S1x1024 .f32)
    (w : FVec Ideal S1x2048x2048 .f32) (lg lb : FVec Ideal S1x2048 .f32) (t : Fin 16384) (c : Fin 2048) :
    refOut x attn rec g w lg lb (ix2 t c) = resultAt x attn rec g w lg lb t c := by
  pointwise [refOut]
  rw [hostNorm_apply]
  unfold resultAt mixOf
  simp only [hostMix_apply, hostRms_apply, hostHeads_apply]
  try rfl

end Cert.Proof.OutProj

end
-- ==== Proof.OutBlocks.lean ====
/-
  The output projection's blocks read off the program's arguments: at a point before the last, the block of tokens it
  projects, and at every point the weights, the gains and the bias.
-/
module

public import proofs.«01_k».proof.Proof.OutTiles
public import proofs.«01_k».proof.Proof.OutReference
public import proofs.«01_k».proof.Proof.Gen.Kernel2Ideal.Frame.Runs

@[expose] public section

noncomputable section

namespace Cert.Proof.OutProj

open Cert.Kernel2Ideal Cert.Kernel2Ideal.Gen
open Idealize.ShloMosaic
open Idealize.ShloMosaic.TcCoe Idealize.ShloMosaic.Tactic

variable (m : (ℓ : Loc nD τ sig) → Buf (Elt Ideal) ℓ) (c : Dev nD)

/-! ## Where each block lies -/

theorem at0 : ∀ t : Fin cfg0.N, (cfg0.win 0).index t = ![0, min t.val 63, 0] := by decide +kernel
theorem at1 : ∀ t : Fin cfg0.N, (cfg0.win 1).index t = ![0, min t.val 63, 0] := by decide +kernel
theorem at2 : ∀ t : Fin cfg0.N, (cfg0.win 2).index t = ![min t.val 63, 0] := by decide +kernel
theorem at3 : ∀ t : Fin cfg0.N, (cfg0.win 3).index t = ![0, 0] := by decide +kernel
theorem at4 : ∀ t : Fin cfg0.N, (cfg0.win 4).index t = ![0, 0] := by decide +kernel
theorem at5 : ∀ t : Fin cfg0.N, (cfg0.win 5).index t = ![0, 0] := by decide +kernel
theorem at6 : ∀ t : Fin cfg0.N, (cfg0.win 6).index t = ![0, 0] := by decide +kernel

/-! ## The blocks at an index -/

theorem gain_at (t : Fin cfg0.N) (k : Fin 1024) :
    iblk m c 3 t (ix2 0 k) = m ((c : Thread nD τ).loc main_arg3) (ix2 (0 : Fin 1) k) := by
  blk_ext! [iblk, V, at3 t]

theorem w_at (t : Fin cfg0.N) (k d : Fin 2048) :
    iblk m c 4 t (ix2 k d) = m ((c : Thread nD τ).loc main_arg4) (ix3 (0 : Fin 1) k d) := by
  blk_ext! [iblk, V, at4 t]

theorem attn_at (t : Fin cfg0.N) (ht : t.val < 64) (h : Fin 8) (i : Fin 256) (l : Fin 128) (b : Fin 4) (s : Fin 4096)
    (hb : b.val * 4096 + s.val = t.val * 256 + i.val) :
    iblk m c 0 t (ix3 h i l) = m ((c : Thread nD τ).loc main_arg1) (ix4 h b s l) := by
  blk_ext! [iblk, V, at0 t]

theorem rec_at (t : Fin cfg0.N) (ht : t.val < 64) (h : Fin 8) (i : Fin 256) (l : Fin 128) (b : Fin 4) (s : Fin 4096)
    (hb : b.val * 4096 + s.val = t.val * 256 + i.val) :
    iblk m c 1 t (ix3 h i l) = m ((c : Thread nD τ).loc main_arg2) (ix4 h b s l) := by
  blk_ext! [iblk, V, at1 t]

theorem x_at (t : Fin cfg0.N) (ht : t.val < 64) (i : Fin 256) (d : Fin 2048) (b : Fin 4) (s : Fin 4096)
    (hb : b.val * 4096 + s.val = t.val * 256 + i.val) :
    iblk m c 2 t (ix2 i d) = m ((c : Thread nD τ).loc main_arg0) (ix3 b s d) := by
  blk_ext! [iblk, V, at2 t]

theorem lg_at (t : Fin cfg0.N) (k : Fin 2048) :
    iblk m c 5 t (ix2 0 k) = m ((c : Thread nD τ).loc main_arg5) (ix2 (0 : Fin 1) k) := by
  blk_ext! [iblk, V, at5 t]

theorem lb_at (t : Fin cfg0.N) (k : Fin 2048) :
    iblk m c 6 t (ix2 0 k) = m ((c : Thread nD τ).loc main_arg6) (ix2 (0 : Fin 1) k) := by
  blk_ext! [iblk, V, at6 t]

/-! ## The rows of a point, over the arguments -/

/-- The rows of point `t`'s tokens before their layer norm. -/
theorem z_at (t : Fin cfg0.N) (ht : t.val < 64) (i : Fin 256) (d : Fin 2048) (b : Fin 4) (s : Fin 4096)
    (hb : b.val * 4096 + s.val = t.val * 256 + i.val) :
    zBlk (iblk m c 0 t) (iblk m c 1 t) (iblk m c 2 t) (iblk m c 3 t) (iblk m c 4 t) (ix2 i d)
      = mixOf (m ((c : Thread nD τ).loc main_arg0)) (m ((c : Thread nD τ).loc main_arg1)) (m ((c : Thread nD τ).loc main_arg2))
          (m ((c : Thread nD τ).loc main_arg3)) (m ((c : Thread nD τ).loc main_arg4)) b s d := by
  have ea : headAt (iblk m c 0 t) i = tokenAt (m ((c : Thread nD τ).loc main_arg1)) b s :=
    funext fun k => attn_at m c t ht _ i _ b s hb
  have er : headAt (iblk m c 1 t) i = tokenAt (m ((c : Thread nD τ).loc main_arg2)) b s :=
    funext fun k => rec_at m c t ht _ i _ b s hb
  show mixAt (fun k => rmsAt (headAt (iblk m c 0 t) i) (iblk m c 3 t (ix2 0 k)) k) (headAt (iblk m c 1 t) i)
      (fun k => iblk m c 4 t (ix2 (⟨k.val, by omega⟩ : Fin 2048) d)) (fun k => iblk m c 4 t (ix2 (⟨1024 + k.val, by omega⟩ : Fin 2048) d))
      (iblk m c 2 t (ix2 i d)) = _
  unfold mixOf
  simp only [ea, er, gain_at m c t, w_at m c t, x_at m c t ht i d b s hb]

/-- The layer norm of point `t`'s rows, under the gain and bias found at any point `t'`. -/
theorem out_at (t t' : Fin cfg0.N) (ht : t.val < 64) (i : Fin 256) (d : Fin 2048) (n : Fin 16384) (hn : n.val = t.val * 256 + i.val) :
    lnBlk (zBlk (iblk m c 0 t) (iblk m c 1 t) (iblk m c 2 t) (iblk m c 3 t) (iblk m c 4 t)) (iblk m c 5 t') (iblk m c 6 t') (ix2 i d)
      = resultAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) n d := by
  have ez : (fun k => zBlk (iblk m c 0 t) (iblk m c 1 t) (iblk m c 2 t) (iblk m c 3 t) (iblk m c 4 t) (ix2 i k))
      = mixOf (m ((c : Thread nD τ).loc main_arg0)) (m ((c : Thread nD τ).loc main_arg1)) (m ((c : Thread nD τ).loc main_arg2))
          (m ((c : Thread nD τ).loc main_arg3)) (m ((c : Thread nD τ).loc main_arg4)) (⟨n.val / 4096, by omega⟩ : Fin 4)
          (⟨n.val % 4096, by omega⟩ : Fin 4096) :=
    funext fun k => z_at m c t ht i k _ _ (by show n.val / 4096 * 4096 + n.val % 4096 = _; omega)
  show normAt (fun k => zBlk (iblk m c 0 t) (iblk m c 1 t) (iblk m c 2 t) (iblk m c 3 t) (iblk m c 4 t) (ix2 i k))
      (iblk m c 5 t' (ix2 0 d)) (iblk m c 6 t' (ix2 0 d)) d = _
  rw [ez]
  simp only [lg_at m c t', lb_at m c t']
  rfl

end Cert.Proof.OutProj

end
-- ==== Proof.OutValue.lean ====
/-
  The output projection's first result: every point but the first writes back the layer norm of the rows the point before
  projected, so that array holds the reference's value at every token and column.
-/
module

public import proofs.«01_k».proof.Proof.OutCases
public import proofs.«01_k».proof.Proof.OutBlocks
public import proofs.«01_k».proof.Proof.Gen.Kernel2Ideal.Value

@[expose] public section

noncomputable section

namespace Cert.Proof.OutProj

open Cert.Kernel2Ideal Cert.Kernel2Ideal.Gen
open Idealize.ShloMosaic
open Idealize.ShloMosaic.TcCoe Idealize.ShloMosaic.Tactic

variable (m : (ℓ : Loc nD τ sig) → Buf (Elt Ideal) ℓ) (c : Dev nD)

/-! ## What a point leaves for the next -/

/-- The rows of point `t`'s tokens before their layer norm. -/
abbrev rowsAt (t : Fin cfg0.N) : Vec Ideal S256x2048 .f32 :=
  zBlk (iblk m c 0 t) (iblk m c 1 t) (iblk m c 2 t) (iblk m c 3 t) (iblk m c 4 t)

/-- An even point leaves its rows in the first of the two buffers. -/
theorem left_even (t : Fin cfg0.N) (h : t.val % 2 = 0) : (outsAt0 m c t.val t.isLt).2.2.2.2.2.2.1 = rowsAt m c t := by
  by_cases h0 : t.val % 65 = 0
  · rw [outsAt0_A m c t h0 h (by omega)]
    dsimp only
    exact rows_A ..
  · rw [outsAt0_C m c t h0 h (by omega)]
    dsimp only
    exact rows_C ..

/-- An odd point leaves them in the second. -/
theorem left_odd (t : Fin cfg0.N) (h : t.val % 2 = 1) : (outsAt0 m c t.val t.isLt).2.2.2.2.2.2.2 = rowsAt m c t := by
  have h65 : t.val < 65 := t.isLt
  rw [outsAt0_B m c t (by omega) (by omega) h]
  dsimp only
  exact rows_B ..

/-! ## What a point writes back -/

/-- The point before. -/
abbrev before (t : Fin cfg0.N) : Fin cfg0.N := ⟨t.val - 1, Nat.lt_of_le_of_lt (Nat.sub_le _ _) t.isLt⟩

/-- Every point but the first writes back the layer norm of the rows of the point before. -/
theorem out_of (t : Fin cfg0.N) (h1 : 1 ≤ t.val) :
    (outsAt0 m c t.val t.isLt).1 = lnBlk (rowsAt m c (before t)) (iblk m c 5 t) (iblk m c 6 t) := by
  have h65 : t.val < 65 := t.isLt
  by_cases h2 : t.val % 2 = 1
  · have e := left_even m c (before t) (by show (t.val - 1) % 2 = 0; omega)
    rw [outsAt0_B m c t (by omega) (by omega) h2]
    dsimp only
    exact (norm_B ..).trans (congrArg (lnBlk · _ _) e)
  · have e := left_odd m c (before t) (by show (t.val - 1) % 2 = 1; omega)
    rw [outsAt0_C m c t (by omega) (by omega) h2]
    dsimp only
    exact (norm_C ..).trans (congrArg (lnBlk · _ _) e)

/-! ## The array -/

theorem at9 : ∀ t : Fin cfg0.N, (cfg0.win 9).index t = ![t.val - 1, 0] := by decide +kernel

/-- The first point's block is not written back by it. -/
theorem flushed_pos : ∀ t : Fin cfg0.N, (cfg0.win 9).flush t = true → 1 ≤ t.val := by decide +kernel

/-- The first result holds the reference's value at every token and column. -/
theorem result : (dats m 0 c).arrAt 9 cfg0.N = fun j : S16384x2048.Idx =>
    resultAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (j 0) (j 1) := by
  refine (dats m 0 c).arrAt_eq_of_covers 9 _ (by decide +kernel) fun t hf y => ?_
  have h65 : t.val < 65 := t.isLt
  have h1 := flushed_pos t hf
  blk_simp
  rw [after0_9, out_of m c t h1]
  have e0 : ((((cfg0.win 9).blk t).view.emb y) 0 : ℕ) = (t.val - 1) * 256 + (y 0).val := by
    blk_simp [at9 t]
  have e1 : (((cfg0.win 9).blk t).view.emb y) 1 = (y 1 : Fin 2048) := Fin.ext (by
    blk_simp [at9 t])
  have ey : y = ix2 (n0 := 256) (n1 := 2048) (y 0) (y 1) := eq_ix2 (n0 := 256) (n1 := 2048) y
  have key := out_at m c (before t) t (by show t.val - 1 < 64; omega) (y 0) (y 1) ((((cfg0.win 9).blk t).view.emb y) 0) e0
  rw [← ey] at key
  refine key.trans ?_
  exact congrArg (resultAt _ _ _ _ _ _ _ _) e1.symm

end Cert.Proof.OutProj

end
-- ==== Proof.OutHalves.lean ====
/-
  The output projection's second result: the rows of the first one rounded to bf16, a row's 2048 columns laid out as sixteen
  rows of 128 lanes, the chunks of its two halves in turn. What a grid point stores there, piece by piece.
-/
module

public import proofs.«01_k».proof.Proof.OutTiles
public import proofs.«01_k».proof.Proof.Gen.Kernel2Ideal.Frame

@[expose] public section

set_option maxRecDepth 8000

noncomputable section

namespace Cert.Proof.OutProj

open Cert.Kernel2Ideal Cert.Kernel2Ideal.Gen
open Idealize.ShloMosaic
open Idealize.ShloMosaic.TcCoe Idealize.ShloMosaic.Tactic

/-- The column found at lane `l` of row `r` of sixteen: an even row is a chunk of the first half, an odd one of the second. -/
def colOf (r : Fin 16) (l : Fin 128) : Fin 2048 := ⟨r.val % 2 * 1024 + r.val / 2 * 128 + l.val, by omega⟩

section Same
variable {F : FTy → Type} [FloatOps F]

/-- The layer norm of 64 rows in that layout. -/
abbrev halfRows (z : Vec F S64x2048 .f32) (g b : Vec F S1x2048 .f32) : FVec F S64x16x128 .bf16 := k0_pay16 z g b

theorem half_12 (z : Vec F S64x2048 .f32) (g b : Vec F S1x2048 .f32) : k0_pay12 z (k0_pay8 g) (k0_pay9 b) (k0_pay10 z) = halfRows z g b := rfl
theorem half_23 (z : Vec F S64x2048 .f32) (g b : Vec F S1x2048 .f32) : k0_pay23 (k0_pay22 z g b) = halfRows z g b := rfl
theorem half_31 (z : Vec F S64x2048 .f32) (g b : Vec F S1x2048 .f32) : k0_pay31 (k0_pay26 g) (k0_pay27 b) (k0_pay28 z) (k0_pay29 z) = halfRows z g b := rfl
theorem half_69 (z : Vec F S64x2048 .f32) (g b : Vec F S1x2048 .f32) : k0_pay69 z (k0_pay65 g) (k0_pay66 b) (k0_pay67 z) = halfRows z g b := rfl
theorem half_73 (z : Vec F S64x2048 .f32) (g b : Vec F S1x2048 .f32) : k0_pay73 z g b = halfRows z g b := rfl
theorem half_80 (z : Vec F S64x2048 .f32) (g b : Vec F S1x2048 .f32) : k0_pay80 (k0_pay79 z g b) = halfRows z g b := rfl
theorem half_88 (z : Vec F S64x2048 .f32) (g b : Vec F S1x2048 .f32) : k0_pay88 (k0_pay83 g) (k0_pay84 b) (k0_pay85 z) (k0_pay86 z) = halfRows z g b := rfl

end Same

theorem halfRows_apply (z : Vec Ideal S64x2048 .f32) (g b : Vec Ideal S1x2048 .f32) (i : Fin 64) (r : Fin 16) (l : Fin 128) :
    halfRows z g b (ix3 i r l) = lnRows z g b (ix2 i (colOf r l)) := by
  pointwise [halfRows, k0_pay16]
  rfl

/-- A block of the second result. -/
def halfBlk (z : Vec Ideal S256x2048 .f32) (g b : Vec Ideal S1x2048 .f32) : Vec Ideal S256x16x128 .bf16 := fun j =>
  lnBlk z g b (ix2 (j 0) (colOf (j 1) (j 2)))

/-- Its rows from `o` on. -/
theorem half_piece (z : Vec Ideal S256x2048 .f32) (g b : Vec Ideal S1x2048 .f32) (o : Nat) (inb) (x : S64x16x128.Idx) (y : S256x16x128.Idx)
    (h0 : (y 0).val = o + (x 0).val) (h1 : (y 1).val = (x 1).val) (h2 : (y 2).val = (x 2).val) :
    halfRows (View.ld z (Rect.unit ![o, 0] ![64, 2048] inb)) g b x = halfBlk z g b y := by
  obtain ⟨i, r, l, rfl⟩ : ∃ (i : Fin 64) (r : Fin 16) (l : Fin 128), x = ix3 i r l := ⟨x 0, x 1, x 2, eq_ix3 x⟩
  obtain ⟨i', r', l', rfl⟩ : ∃ (i' : Fin 256) (r' : Fin 16) (l' : Fin 128), y = ix3 i' r' l' := ⟨y 0, y 1, y 2, eq_ix3 y⟩
  obtain rfl : r' = r := Fin.ext h1
  obtain rfl : l' = l := Fin.ext h2
  rw [halfRows_apply]
  exact ln_piece z g b o inb (ix2 i (colOf r' l')) (ix2 i' (colOf r' l')) h0 rfl

variable (c : Dev nD) (i : grid0.Coords) (arg1 : Memref sig .tc .vmem S8x256x128 .f32) (harg1 : arg1.IsWhole) (arg2 :
    Memref sig .tc .vmem S8x256x128 .f32) (harg2 : arg2.IsWhole) (arg3 : Memref sig .tc .vmem S256x2048 .f32)
    (harg3 : arg3.IsWhole) (arg4 : Memref sig .tc .vmem S1x1024 .f32) (harg4 : arg4.IsWhole) (arg5 : Memref sig
    .tc .vmem S2048x2048 .bf16) (harg5 : arg5.IsWhole) (arg6 : Memref sig .tc .vmem S1x2048 .f32) (harg6 :
    arg6.IsWhole) (arg7 : Memref sig .tc .vmem S1x2048 .f32) (harg7 : arg7.IsWhole) (arg8 : Memref sig .tc .vmem
    S2048x128 .f32) (harg8 : arg8.IsWhole) (arg9 : Memref sig .tc .vmem S1x128 .f32) (harg9 : arg9.IsWhole) (arg10
    : Memref sig .tc .vmem S256x2048 .f32) (harg10 : arg10.IsWhole) (arg11 : Memref sig .tc .vmem S256x16x128
    .bf16) (harg11 : arg11.IsWhole) (arg12 : Memref sig .tc .vmem S8x256 .i32) (harg12 : arg12.IsWhole) (arg13 :
    Memref sig .tc .vmem S256x128 .f32) (harg13 : arg13.IsWhole) (arg14 : Memref sig .tc .vmem S8x128 .i32)
    (harg14 : arg14.IsWhole) (arg15 : Memref sig .tc .vmem S8x128 .f32) (harg15 : arg15.IsWhole) (arg16 : Memref
    sig .tc .vmem S256x2048 .f32) (harg16 : arg16.IsWhole) (arg17 : Memref sig .tc .vmem S256x2048 .f32) (harg17 :
    arg17.IsWhole)
variable (x0 x1 : Vec Ideal S8x256x128 .f32) (x2 : Vec Ideal S256x2048 .f32) (x3 : Vec Ideal S1x1024 .f32) (x4 : Vec Ideal S2048x2048 .bf16)
    (x5 x6 : Vec Ideal S1x2048 .f32) (x7 : Vec Ideal S2048x128 .f32) (x8 : Vec Ideal S1x128 .f32)

/-- An odd point. -/
theorem halves_B (hc0 : ¬cond0_0 i) (hc1 : ¬cond0_1 i) (hc2 : cond0_2 i) (xs0 : Vec Ideal S8x128 .f32) (xs1 : Vec Ideal S256x2048 .f32) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xs0 xs1 = halfBlk xs1 x5 x6 := by
  funext y
  frame_out
  canon_tiles x h
  all_goals
    (try simp only [half_69, half_73, half_80, half_88])
    refine half_piece _ _ _ _ _ x y ?_ ?_ ?_ <;> omega

/-- An even point after the first. -/
theorem halves_C (hc0 : ¬cond0_0 i) (hc1 : cond0_1 i) (hc2 : ¬cond0_2 i) (xs0 : Vec Ideal S8x128 .f32) (xs2 : Vec Ideal S256x2048 .f32) :
    out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 xs0 xs2 = halfBlk xs2 x5 x6 := by
  funext y
  frame_out
  canon_tiles x h
  all_goals
    (try simp only [half_12, half_23, half_31])
    refine half_piece _ _ _ _ _ x y ?_ ?_ ?_ <;> omega

end Cert.Proof.OutProj

end
-- ==== Proof.OutHalvesValue.lean ====
/-
  The output projection's second result over the whole array, on the kernel's side and on the reference's: at row `r` and
  lane `l` of a token it holds the first result's column `colOf r l`.
-/
module

public import proofs.«01_k».proof.Proof.OutValue
public import proofs.«01_k».proof.Proof.OutHalves
public import proofs.«01_k».proof.Proof.OutReference

@[expose] public section

noncomputable section

namespace Cert.Proof.OutProj

open Idealize.ShloMosaic
open Idealize.ShloMosaic.TcCoe Idealize.ShloMosaic.Tactic

/-! ## The kernel -/

section Kernel
open Cert.Kernel2Ideal Cert.Kernel2Ideal.Gen

variable (m : (ℓ : Loc nD τ sig) → Buf (Elt Ideal) ℓ) (c : Dev nD)

/-- Every point but the first writes back the rows of the point before, normalized, in that layout. -/
theorem halves_of (t : Fin cfg0.N) (h1 : 1 ≤ t.val) :
    (outsAt0 m c t.val t.isLt).2.1 = halfBlk (rowsAt m c (before t)) (iblk m c 5 t) (iblk m c 6 t) := by
  have h65 : t.val < 65 := t.isLt
  by_cases h2 : t.val % 2 = 1
  · have e := left_even m c (before t) (by show (t.val - 1) % 2 = 0; omega)
    rw [outsAt0_B m c t (by omega) (by omega) h2]
    dsimp only
    exact (halves_B ..).trans (congrArg (halfBlk · _ _) e)
  · have e := left_odd m c (before t) (by show (t.val - 1) % 2 = 1; omega)
    rw [outsAt0_C m c t (by omega) (by omega) h2]
    dsimp only
    exact (halves_C ..).trans (congrArg (halfBlk · _ _) e)

theorem at10 : ∀ t : Fin cfg0.N, (cfg0.win 10).index t = ![t.val - 1, 0, 0] := by decide +kernel

theorem flushed_pos10 : ∀ t : Fin cfg0.N, (cfg0.win 10).flush t = true → 1 ≤ t.val := by decide +kernel

/-- The second result holds the first's columns in that order. -/
theorem result10 : (dats m 0 c).arrAt 10 cfg0.N = fun j : S16384x16x128.Idx =>
    resultAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (j 0) (colOf (j 1) (j 2)) := by
  refine (dats m 0 c).arrAt_eq_of_covers 10 _ (by decide +kernel) fun t hf y => ?_
  have h65 : t.val < 65 := t.isLt
  have h1 := flushed_pos10 t hf
  blk_simp
  rw [after0_10, halves_of m c t h1]
  have e0 : ((((cfg0.win 10).blk t).view.emb y) 0 : ℕ) = (t.val - 1) * 256 + (y 0).val := by
    blk_simp [at10 t]
  have e1 : (((cfg0.win 10).blk t).view.emb y) 1 = (y 1 : Fin 16) := Fin.ext (by
    blk_simp [at10 t])
  have e2 : (((cfg0.win 10).blk t).view.emb y) 2 = (y 2 : Fin 128) := Fin.ext (by
    blk_simp [at10 t])
  have key := out_at m c (before t) t (by show t.val - 1 < 64; omega) (y 0) (colOf (y 1) (y 2)) ((((cfg0.win 10).blk t).view.emb y) 0) e0
  refine Eq.trans key ?_
  exact congrArg (resultAt _ _ _ _ _ _ _ _) (congrArg₂ colOf e1.symm e2.symm)

end Kernel

/-! ## The reference -/

section Reference
open Cert.Reference2Ideal Cert.Reference2Ideal.Gen

/-- The reference's second result, of its first. -/
def refHalves (x : FVec Ideal S16384x2048 .f32) : FVec Ideal S16384x16x128 .bf16 :=
  shapeCast S16384x16x128 (transpose S16384x8x2x128 [0, 2, 1, 3]
    (shapeCast S16384x2x8x128 (truncf .bf16 x bitsLt_bf16_f32) shapeCasts_S16384x2048_S16384x2x8x128)
    transposes_S16384x2x8x128_S16384x8x2x128_0_2_1_3) shapeCasts_S16384x8x2x128_S16384x16x128

theorem refHalves_eq (m : (ℓ : Loc nD τ sig) → Buf (Elt Ideal) ℓ) (c : Dev nD) :
    Cert.Reference2Ideal.Value.res_main_v54 m c
      = refHalves (refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6))) := rfl

theorem refHalves_apply (x : FVec Ideal S16384x2048 .f32) (t : Fin 16384) (r : Fin 16) (l : Fin 128) :
    refHalves x (ix3 t r l) = x (ix2 t (colOf r l)) := by
  pointwise [refHalves]
  rfl

end Reference

end Cert.Proof.OutProj

end
-- ==== Proof.lean ====
/-
  The claims of the input projection and of the output projection: both frames of each kernel from its one run, each
  reference's frame from its run, and the values.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Launch
public import proofs.«01_k».proof.Proof.Value
public import proofs.«01_k».proof.Proof.Reference
public import proofs.«01_k».proof.Proof.OutSame
public import proofs.«01_k».proof.Proof.OutValue
public import proofs.«01_k».proof.Proof.OutHalvesValue
public import proofs.«01_k».proof.Proof.OutReference
public import Idealize.ShloMosaic.Adequacy
public import Idealize.ShloMosaic.Init

@[expose] public section

noncomputable section

namespace Cert.Proof

open Idealize.ShloMosaic Idealize.SL.Sem Cert.Kernel

/-- Both texts of the kernel are one program over any float values, so one run gives both frames. -/
theorem frame_kernel : Cert.quiescent_Kernel := fun m ρ _ =>
  (θ_run Cert.KernelIdeal.defs _ _).mono (fun _ h => ⟨fun c => ⟨(h.1 c).2.2.1, (h.1 c).2.2.2⟩, h.2⟩) (InProj.run_main (F := Bits) m ρ)
theorem frame_kernelIdeal : Cert.quiescent_KernelIdeal := fun m ρ _ =>
  (θ_run Cert.KernelIdeal.defs _ _).mono (fun _ h => ⟨fun c => ⟨(h.1 c).2.2.1, (h.1 c).2.2.2⟩, h.2⟩) (InProj.run_main (F := Ideal) m ρ)
/-- The reference is host operations alone: it has no semaphore to leave raised. -/
theorem frame_reference : Cert.quiescent_ReferenceIdeal := fun m ρ _ =>
  (θ_run Cert.ReferenceIdeal.defs _ _).mono (fun r h => ⟨fun c => ⟨(h c).2.2.1, (h c).2.2.2⟩, sem_eq_zero_of_no_sems (by decide) r.2⟩)
    (Cert.ReferenceIdeal.Value.run (F := Ideal) m ρ)

/-- Over the extended reals the kernel's two results are the reference's. -/
theorem values : Cert.algebraic_KernelIdeal_ReferenceIdeal := fun m ρ m' ρ' _ hargs =>
  ⟨fun c => InProj.outQ m c, fun c => InProj.outG m c,
    (θ_run Cert.KernelIdeal.defs _ _).mono (fun _ h c => ⟨(h.1 c).1, (h.1 c).2.1, (h.1 c).2.2.1, (h.1 c).2.2.2⟩) (InProj.run_main (F := Ideal) m ρ),
    (θ_run Cert.ReferenceIdeal.defs _ _).mono (fun r h c => by
      obtain ⟨h0, h1, h2, h3⟩ := h c
      obtain ⟨e0, e1⟩ := hargs c
      refine ⟨(h0.trans ?_).trans (Values.outQ_eq m c).symm, (h1.trans ?_).trans (Values.outG_eq m c).symm, h2, h3⟩
      · rw [e0, e1]; rfl
      · rw [e0, e1]; rfl) (Cert.ReferenceIdeal.Value.run (F := Ideal) m' ρ')⟩

/-! ## The output projection -/

/-- Its two texts are one program as well. -/
theorem frame_kernel2 : Cert.quiescent_Kernel2 := fun m ρ _ => by
  have h := Cert.Kernel2Ideal.Gen.frame (F := Bits) m ρ
  rw [← OutProj.same_defs, ← OutProj.same_main] at h
  exact h
theorem frame_kernel2Ideal : Cert.quiescent_Kernel2Ideal := fun m ρ _ => Cert.Kernel2Ideal.Gen.frame (F := Ideal) m ρ
theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- Over the extended reals both of the kernel's results are the reference's. -/
theorem values2 : Cert.algebraic_Kernel2Ideal_Reference2Ideal := fun m ρ m' ρ' _ hargs =>
  ⟨fun c => (Cert.Kernel2Ideal.Gen.dats m 0 c).arrAt 9 Cert.Kernel2Ideal.cfg0.N,
    fun c => (Cert.Kernel2Ideal.Gen.dats m 0 c).arrAt 10 Cert.Kernel2Ideal.cfg0.N,
    (θ_run Cert.Kernel2Ideal.defs _ _).mono (fun _ h c => ⟨(h c).1, (h c).2.1, (h c).2.2.2.2.2⟩) (Cert.Kernel2Ideal.Value.run_blocks (F := Ideal) m ρ),
    (θ_run Cert.Reference2Ideal.defs _ _).mono (fun r h c => by
      obtain ⟨e0, e1, e2, e3, e4, e5, e6, _⟩ := hargs c
      refine ⟨(h c).1.trans (((OutProj.refOut_eq m' c).trans ?_).trans (OutProj.result m c).symm),
        (h c).2.1.trans (((OutProj.refHalves_eq m' c).trans ?_).trans (OutProj.result10 m c).symm), (h c).2.2⟩
      · rw [e0, e1, e2, e3, e4, e5, e6]
        funext j
        obtain ⟨t, d, rfl⟩ : ∃ (t : Fin 16384) (d : Fin 2048), j = ix2 t d := ⟨j 0, j 1, eq_ix2 j⟩
        exact OutProj.refOut_apply _ _ _ _ _ _ _ t d
      · rw [e0, e1, e2, e3, e4, e5, e6]
        funext j
        obtain ⟨t, r, l, rfl⟩ : ∃ (t : Fin 16384) (r : Fin 16) (l : Fin 128), j = ix3 t r l := ⟨j 0, j 1, j 2, eq_ix3 j⟩
        exact (OutProj.refHalves_apply _ t r l).trans (OutProj.refOut_apply _ _ _ _ _ _ _ t (OutProj.colOf r l)))
      (Cert.Reference2Ideal.Value.run (F := Ideal) m' ρ')⟩

theorem claim : Cert.Claim := ⟨Cert.Kernel.Gen.facts, Cert.KernelIdeal.Gen.facts, Cert.Kernel2.Gen.facts, Cert.Kernel2Ideal.Gen.facts,
  Cert.ReferenceIdeal.Gen.facts, Cert.Reference2Ideal.Gen.facts,
  frame_kernel, frame_kernelIdeal, frame_kernel2, frame_kernel2Ideal, frame_reference, frame_reference2,
  trivial, values, trivial, values2⟩

end Cert.Proof

end
